-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1024x1024 : Shape := ⟨2, ![1024, 1024]⟩
abbrev S512x1024 : Shape := ⟨2, ![512, 1024]⟩
abbrev S2 : Shape := ⟨1, ![2]⟩
abbrev S_ : Shape := ⟨0, ![]⟩
abbrev S8 : Shape := ⟨1, ![8]⟩
abbrev S1 : Shape := ⟨1, ![1]⟩
abbrev S64x1024 : Shape := ⟨2, ![64, 1024]⟩
abbrev S1x64x1024 : Shape := ⟨3, ![1, 64, 1024]⟩
abbrev S448x1024 : Shape := ⟨2, ![448, 1024]⟩
abbrev S1x448x1024 : Shape := ⟨3, ![1, 448, 1024]⟩
abbrev S1x512x1024 : Shape := ⟨3, ![1, 512, 1024]⟩
abbrev S1x1024 : Shape := ⟨2, ![1, 1024]⟩
abbrev S64 : Shape := ⟨1, ![64]⟩
abbrev S64x1 : Shape := ⟨2, ![64, 1]⟩

abbrev nBuf : Space → Nat
  | .hbm => 3
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let c0_i32 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c1024_i32 : BitVec 32 := 1024#32
  let v12 : BitVec 32 := Scalar.muli v11 c1024_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v13 : BitVec 32 := Scalar.muli v5 c512_i32
  let v14 : BitVec 32 := Scalar.addi v12 v13
  let c0_i32_10 : BitVec 32 := 0#32
  ![0, v14.toNat, 0]
def k0_off2 (d0 : Dev nD) : Fin 3 → Nat :=
  let c0_i32_11 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c1024_i32 : BitVec 32 := 1024#32
  let v12 : BitVec 32 := Scalar.muli v11 c1024_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v13 : BitVec 32 := Scalar.muli v5 c512_i32
  let v14 : BitVec 32 := Scalar.addi v12 v13
  let c64_i32 : BitVec 32 := 64#32
  let v23 : BitVec 32 := Scalar.addi v14 c64_i32
  let c0_i32_15 : BitVec 32 := 0#32
  ![0, v23.toNat, 0]
def k0_off3 (d0 : Dev nD) : Fin 3 → Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_5 : BitVec 32 := 1024#32
  let v15 : BitVec 32 := Scalar.muli v2 c1024_i32_5
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_6 : BitVec 32 := 512#32
  let v16 : BitVec 32 := Scalar.muli v5 c512_i32_6
  let v17 : BitVec 32 := Scalar.addi v15 v16
  let c0_i32_17 : BitVec 32 := 0#32
  ![0, v17.toNat, 0]
def k0_dev1 (d0 : Dev nD) : Nat :=
  let c0_i32_20 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_19 : BitVec 32 := 8#32
  let v32 : BitVec 32 := Scalar.muli v9 c8_i32_19
  let v33 : BitVec 32 := Scalar.addi c0_i32_20 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v34 : BitVec 32 := Scalar.muli v5 c4_i32_21
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v36 : BitVec 32 := Scalar.muli v8 c1_i32_22
  let v37 : BitVec 32 := Scalar.addi v35 v36
  v37.toNat
def k0_dev2 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v38 : BitVec 32 := Scalar.muli v2 c8_i32_24
  let v39 : BitVec 32 := Scalar.addi c0_i32_25 v38
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_26 : BitVec 32 := 4#32
  let v40 : BitVec 32 := Scalar.muli v10 c4_i32_26
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v42 : BitVec 32 := Scalar.muli v8 c1_i32_27
  let v43 : BitVec 32 := Scalar.addi v41 v42
  v43.toNat
def k0_dev3 (d0 : Dev nD) : Nat :=
  let c0_i32_40 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_39 : BitVec 32 := 8#32
  let v54 : BitVec 32 := Scalar.muli v9 c8_i32_39
  let v55 : BitVec 32 := Scalar.addi c0_i32_40 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v56 : BitVec 32 := Scalar.muli v5 c4_i32_41
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v58 : BitVec 32 := Scalar.muli v8 c1_i32_42
  let v59 : BitVec 32 := Scalar.addi v57 v58
  v59.toNat
def k0_dev4 (d0 : Dev nD) : Nat :=
  let c0_i32_58 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_57 : BitVec 32 := 8#32
  let v76 : BitVec 32 := Scalar.muli v9 c8_i32_57
  let v77 : BitVec 32 := Scalar.addi c0_i32_58 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v78 : BitVec 32 := Scalar.muli v5 c4_i32_59
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v80 : BitVec 32 := Scalar.muli v8 c1_i32_60
  let v81 : BitVec 32 := Scalar.addi v79 v80
  v81.toNat
def k0_dev5 (d0 : Dev nD) : Nat :=
  let c0_i32_71 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_70 : BitVec 32 := 8#32
  let v93 : BitVec 32 := Scalar.muli v9 c8_i32_70
  let v94 : BitVec 32 := Scalar.addi c0_i32_71 v93
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v95 : BitVec 32 := Scalar.muli v5 c4_i32_72
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v97 : BitVec 32 := Scalar.muli v8 c1_i32_73
  let v98 : BitVec 32 := Scalar.addi v96 v97
  v98.toNat
def k0_dev6 (d0 : Dev nD) : Nat :=
  let c0_i32_82 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_81 : BitVec 32 := 8#32
  let v110 : BitVec 32 := Scalar.muli v9 c8_i32_81
  let v111 : BitVec 32 := Scalar.addi c0_i32_82 v110
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v112 : BitVec 32 := Scalar.muli v5 c4_i32_83
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v114 : BitVec 32 := Scalar.muli v8 c1_i32_84
  let v115 : BitVec 32 := Scalar.addi v113 v114
  v115.toNat
def k0_dev7 (d0 : Dev nD) : Nat :=
  let c0_i32_94 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_93 : BitVec 32 := 8#32
  let v127 : BitVec 32 := Scalar.muli v9 c8_i32_93
  let v128 : BitVec 32 := Scalar.addi c0_i32_94 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v129 : BitVec 32 := Scalar.muli v5 c4_i32_95
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v131 : BitVec 32 := Scalar.muli v8 c1_i32_96
  let v132 : BitVec 32 := Scalar.addi v130 v131
  v132.toNat
def k0_dev8 (d0 : Dev nD) : Nat :=
  let c0_i32_105 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_104 : BitVec 32 := 8#32
  let v144 : BitVec 32 := Scalar.muli v9 c8_i32_104
  let v145 : BitVec 32 := Scalar.addi c0_i32_105 v144
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v146 : BitVec 32 := Scalar.muli v5 c4_i32_106
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v148 : BitVec 32 := Scalar.muli v8 c1_i32_107
  let v149 : BitVec 32 := Scalar.addi v147 v148
  v149.toNat
def k0_dev9 (d0 : Dev nD) : Nat :=
  let c0_i32_116 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_115 : BitVec 32 := 8#32
  let v161 : BitVec 32 := Scalar.muli v9 c8_i32_115
  let v162 : BitVec 32 := Scalar.addi c0_i32_116 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v163 : BitVec 32 := Scalar.muli v5 c4_i32_117
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v165 : BitVec 32 := Scalar.muli v8 c1_i32_118
  let v166 : BitVec 32 := Scalar.addi v164 v165
  v166.toNat
def k0_dev10 (d0 : Dev nD) : Nat :=
  let c0_i32_127 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_126 : BitVec 32 := 8#32
  let v178 : BitVec 32 := Scalar.muli v9 c8_i32_126
  let v179 : BitVec 32 := Scalar.addi c0_i32_127 v178
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v180 : BitVec 32 := Scalar.muli v5 c4_i32_128
  let v181 : BitVec 32 := Scalar.addi v179 v180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v182 : BitVec 32 := Scalar.muli v8 c1_i32_129
  let v183 : BitVec 32 := Scalar.addi v181 v182
  v183.toNat
def k0_off4 (d0 : Dev nD) (c0_i32_155 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_154 : BitVec 32 := 512#32
  let v223 : BitVec 32 := Scalar.muli v5 c512_i32_154
  let v224 : BitVec 32 := Scalar.addi v223 c0_i32_155
  let c0_i32_157 : BitVec 32 := 0#32
  ![v224.toNat, 0]
def k0_dev11 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v233 : BitVec 32 := Scalar.muli v2 c8_i32_164
  let v234 : BitVec 32 := Scalar.addi c0_i32_165 v233
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_166 : BitVec 32 := 4#32
  let v235 : BitVec 32 := Scalar.muli v10 c4_i32_166
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v237 : BitVec 32 := Scalar.muli v8 c1_i32_167
  let v238 : BitVec 32 := Scalar.addi v236 v237
  v238.toNat
def k0_dev12 (d0 : Dev nD) : Nat :=
  let c0_i32_202 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_201 : BitVec 32 := 8#32
  let v284 : BitVec 32 := Scalar.muli v2 c8_i32_201
  let v285 : BitVec 32 := Scalar.addi c0_i32_202 v284
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_203 : BitVec 32 := 4#32
  let v286 : BitVec 32 := Scalar.muli v10 c4_i32_203
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v288 : BitVec 32 := Scalar.muli v8 c1_i32_204
  let v289 : BitVec 32 := Scalar.addi v287 v288
  v289.toNat
def k0_dev13 (d0 : Dev nD) : Nat :=
  let c0_i32_239 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_238 : BitVec 32 := 8#32
  let v335 : BitVec 32 := Scalar.muli v2 c8_i32_238
  let v336 : BitVec 32 := Scalar.addi c0_i32_239 v335
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_240 : BitVec 32 := 4#32
  let v337 : BitVec 32 := Scalar.muli v10 c4_i32_240
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v339 : BitVec 32 := Scalar.muli v8 c1_i32_241
  let v340 : BitVec 32 := Scalar.addi v338 v339
  v340.toNat
def k0_off5 (d0 : Dev nD) (c0_i32_262 : BitVec 32) : Fin 2 → Nat :=
  let c1_i32_260 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v362 : BitVec 32 := Scalar.subi c1_i32_260 v5
  let c512_i32_261 : BitVec 32 := 512#32
  let v363 : BitVec 32 := Scalar.muli v362 c512_i32_261
  let v364 : BitVec 32 := Scalar.addi v363 c0_i32_262
  let c0_i32_264 : BitVec 32 := 0#32
  ![v364.toNat, 0]
def k0_dev14 (d0 : Dev nD) : Nat :=
  let c0_i32_297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_296 : BitVec 32 := 8#32
  let v408 : BitVec 32 := Scalar.muli v2 c8_i32_296
  let v409 : BitVec 32 := Scalar.addi c0_i32_297 v408
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_298 : BitVec 32 := 4#32
  let v410 : BitVec 32 := Scalar.muli v10 c4_i32_298
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v412 : BitVec 32 := Scalar.muli v8 c1_i32_299
  let v413 : BitVec 32 := Scalar.addi v411 v412
  v413.toNat
def k0_dev15 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v481 : BitVec 32 := Scalar.muli v2 c8_i32_354
  let v482 : BitVec 32 := Scalar.addi c0_i32_355 v481
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_356 : BitVec 32 := 4#32
  let v483 : BitVec 32 := Scalar.muli v10 c4_i32_356
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v485 : BitVec 32 := Scalar.muli v8 c1_i32_357
  let v486 : BitVec 32 := Scalar.addi v484 v485
  v486.toNat
def k0_dev16 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_412 : BitVec 32 := 8#32
  let v554 : BitVec 32 := Scalar.muli v2 c8_i32_412
  let v555 : BitVec 32 := Scalar.addi c0_i32_413 v554
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_414 : BitVec 32 := 4#32
  let v556 : BitVec 32 := Scalar.muli v10 c4_i32_414
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v558 : BitVec 32 := Scalar.muli v8 c1_i32_415
  let v559 : BitVec 32 := Scalar.addi v557 v558
  v559.toNat
def k0_dev17 (d0 : Dev nD) : Nat :=
  let c0_i32_471 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_470 : BitVec 32 := 8#32
  let v627 : BitVec 32 := Scalar.muli v2 c8_i32_470
  let v628 : BitVec 32 := Scalar.addi c0_i32_471 v627
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_472 : BitVec 32 := 4#32
  let v629 : BitVec 32 := Scalar.muli v10 c4_i32_472
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v631 : BitVec 32 := Scalar.muli v8 c1_i32_473
  let v632 : BitVec 32 := Scalar.addi v630 v631
  v632.toNat
def k0_dev18 (d0 : Dev nD) : Nat :=
  let c0_i32_529 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_528 : BitVec 32 := 8#32
  let v700 : BitVec 32 := Scalar.muli v2 c8_i32_528
  let v701 : BitVec 32 := Scalar.addi c0_i32_529 v700
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_530 : BitVec 32 := 4#32
  let v702 : BitVec 32 := Scalar.muli v10 c4_i32_530
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v704 : BitVec 32 := Scalar.muli v8 c1_i32_531
  let v705 : BitVec 32 := Scalar.addi v703 v704
  v705.toNat
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Common.lean ====
/-
# The mesh, the memrefs, the cells and the launch-time debts

Sixteen devices lie on a mesh of shape (x, y, z) = (2, 2, 4); device `c` has the logical id `8 x + 4 y + z`. A device
exchanges data with two others: `xp c`, which differs in `x`, and `yp c`, which differs in `y`. Both maps are their own
inverse.

A device sends eight chunks of 64 rows to `xp c` and eight to `yp c`. Its synchronisation cells are the barrier
semaphore and four arrays of eight DMA semaphores: the completion of its own sends to `xp c` (kind 0), the arrival of the
chunks of `xp c` (kind 1), the completion of its sends to `yp c` (kind 2), the arrival of the chunks of `yp c` (kind 3).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.ValueLayout
public import Idealize.ShloMosaic.Lib.Tactic

@[expose] public section

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds algebra of the kernel's own cells; a duty is named by a boolean, as the barrier cell has two payers. -/
abbrev URB : Type := Rounds.URounds (GSem nD τ sig) Bool
abbrev UU : Type := UR sig nD τ × (URB × Counters)

local notation "𝕄" => MT nD τ sig Unit (Elt F) ℕ UU ℕ

abbrev EP : Emb (UR sig nD τ) (MT nD τ sig Unit (Elt F) ℕ UU ℕ) := embL
def ER : Emb URB (MT nD τ sig Unit (Elt F) ℕ UU ℕ) := (Emb.inl : Emb URB (URB × Counters)).trans embR
instance ER_landsIn : (ER (F := F)).LandsIn (upEmb : UEmb _ (MT nD τ sig Unit (Elt F) ℕ UU ℕ)) := by
  unfold ER; infer_instance
abbrev EC : UEmb Counters (MT nD τ sig Unit (Elt F) ℕ UU ℕ) := countersEmb

abbrev 𝒱₀ : Variants := Variants.none

/-! ## The mesh -/

/-- The device across the `x` axis. -/
def xp (c : Dev nD) : Dev nD := ⟨(c.val + 8) % 16, Nat.mod_lt _ (by decide)⟩
/-- The device across the `y` axis. -/
def yp (c : Dev nD) : Dev nD := ⟨8 * (c.val / 8) + (c.val + 4) % 8, by
  have h : c.val < 16 := c.isLt
  show 8 * (c.val / 8) + (c.val + 4) % 8 < 16
  omega⟩

theorem xp_xp (c : Dev nD) : xp (xp c) = c := by revert c; decide
theorem yp_yp (c : Dev nD) : yp (yp c) = c := by revert c; decide

/-- The two exchanges as permutations of the devices. -/
def swapX : Dev nD ≃ Dev nD := ⟨xp, xp, xp_xp, xp_xp⟩
def swapY : Dev nD ≃ Dev nD := ⟨yp, yp, yp_yp, yp_yp⟩

theorem dev1_eq (c : Dev nD) : (⟨k0_dev1 c, k0_dev1_lt c⟩ : Dev nD) = xp c := by revert c; decide +kernel
theorem dev2_eq (c : Dev nD) : (⟨k0_dev2 c, k0_dev2_lt c⟩ : Dev nD) = yp c := by revert c; decide +kernel
theorem dev3_eq (c : Dev nD) : (⟨k0_dev3 c, k0_dev3_lt c⟩ : Dev nD) = xp c := by revert c; decide +kernel
theorem dev4_eq (c : Dev nD) : (⟨k0_dev4 c, k0_dev4_lt c⟩ : Dev nD) = xp c := by revert c; decide +kernel
theorem dev5_eq (c : Dev nD) : (⟨k0_dev5 c, k0_dev5_lt c⟩ : Dev nD) = xp c := by revert c; decide +kernel
theorem dev6_eq (c : Dev nD) : (⟨k0_dev6 c, k0_dev6_lt c⟩ : Dev nD) = xp c := by revert c; decide +kernel
theorem dev7_eq (c : Dev nD) : (⟨k0_dev7 c, k0_dev7_lt c⟩ : Dev nD) = xp c := by revert c; decide +kernel
theorem dev8_eq (c : Dev nD) : (⟨k0_dev8 c, k0_dev8_lt c⟩ : Dev nD) = xp c := by revert c; decide +kernel
theorem dev9_eq (c : Dev nD) : (⟨k0_dev9 c, k0_dev9_lt c⟩ : Dev nD) = xp c := by revert c; decide +kernel
theorem dev10_eq (c : Dev nD) : (⟨k0_dev10 c, k0_dev10_lt c⟩ : Dev nD) = xp c := by revert c; decide +kernel
theorem dev11_eq (c : Dev nD) : (⟨k0_dev11 c, k0_dev11_lt c⟩ : Dev nD) = yp c := by revert c; decide +kernel
theorem dev12_eq (c : Dev nD) : (⟨k0_dev12 c, k0_dev12_lt c⟩ : Dev nD) = yp c := by revert c; decide +kernel
theorem dev13_eq (c : Dev nD) : (⟨k0_dev13 c, k0_dev13_lt c⟩ : Dev nD) = yp c := by revert c; decide +kernel
theorem dev14_eq (c : Dev nD) : (⟨k0_dev14 c, k0_dev14_lt c⟩ : Dev nD) = yp c := by revert c; decide +kernel
theorem dev15_eq (c : Dev nD) : (⟨k0_dev15 c, k0_dev15_lt c⟩ : Dev nD) = yp c := by revert c; decide +kernel
theorem dev16_eq (c : Dev nD) : (⟨k0_dev16 c, k0_dev16_lt c⟩ : Dev nD) = yp c := by revert c; decide +kernel
theorem dev17_eq (c : Dev nD) : (⟨k0_dev17 c, k0_dev17_lt c⟩ : Dev nD) = yp c := by revert c; decide +kernel
theorem dev18_eq (c : Dev nD) : (⟨k0_dev18 c, k0_dev18_lt c⟩ : Dev nD) = yp c := by revert c; decide +kernel

/-! ## The memrefs -/

abbrev xM : Memref sig .tc .hbm S1x2048x1024 .f32 := Memref.whole main_arg0
abbrev gM : Memref sig .tc .hbm S1024 .f32 := Memref.whole main_arg1
abbrev outM : Memref sig .tc .hbm S1024x1024 .f32 := Memref.whole main_v1
/-- The half handed to `xp c`. -/
abbrev pM : Memref sig .tc .vmem S512x1024 .f32 := Memref.whole cc0_scratch0
/-- The half kept. -/
abbrev myM : Memref sig .tc .vmem S512x1024 .f32 := Memref.whole cc0_scratch1
abbrev oM : Memref sig .tc .vmem S512x1024 .f32 := Memref.whole cc0_scratch2
abbrev uM : Memref sig .tc .vmem S512x1024 .f32 := Memref.whole cc0_scratch3
abbrev gbM : Memref sig .tc .vmem S1024 .f32 := Memref.whole cc0_scratch4
abbrev xsM : Memref sig .tc .vmem S512x1024 .bf16 := Memref.whole cc0_scratch5
abbrev xrM : Memref sig .tc .vmem S512x1024 .bf16 := Memref.whole cc0_scratch6
abbrev ysM : Memref sig .tc .vmem S512x1024 .bf16 := Memref.whole cc0_scratch7
abbrev yrM : Memref sig .tc .vmem S512x1024 .bf16 := Memref.whole cc0_scratch8

theorem chunk_inb (i : Fin 8) : ∀ a, (![64 * i.val, 0] : Fin 2 → ℕ) a + S64x1024.size a ≤ S512x1024.size a := by
  revert i; decide

/-- Rows `64 i … 64 i + 63` of a buffer of 512 rows. -/
abbrev cr (i : Fin 8) : Rect S512x1024 := Rect.unit (s := S512x1024) ![64 * i.val, 0] S64x1024.size (chunk_inb i)
abbrev ch {e : EltTy} (b : Memref sig .tc .vmem S512x1024 e) (i : Fin 8) : Memref sig .tc .vmem S64x1024 e :=
  b.slice (cr i) (fun _ => rfl)

/-- Rows of the result the device computes itself, and those it receives from `yp c`. -/
abbrev out1 (c : Dev nD) (i : Fin 8) : Memref sig .tc .hbm S64x1024 .f32 :=
  outM.slice (Rect.unit (s := S1024x1024) (k0_off4 c (BitVec.ofNat 32 (64 * i.val))) S64x1024.size (k0_off4_inb c i)) (fun _ => rfl)
abbrev out2 (c : Dev nD) (i : Fin 8) : Memref sig .tc .hbm S64x1024 .f32 :=
  outM.slice (Rect.unit (s := S1024x1024) (k0_off5 c (BitVec.ofNat 32 (64 * i.val))) S64x1024.size (k0_off5_inb c i)) (fun _ => rfl)

/-- The four sources in the argument, each with its unit axis dropped. -/
abbrev p0src (c : Dev nD) : Memref sig .tc .hbm S64x1024 .f32 :=
  (xM.slice (Rect.unit (s := S1x2048x1024) (k0_off1 c) S1x64x1024.size (k0_off1_inb c)) (fun _ => rfl)).squeeze S64x1024 squeezes_S1x64x1024_S64x1024
abbrev p1src (c : Dev nD) : Memref sig .tc .hbm S448x1024 .f32 :=
  (xM.slice (Rect.unit (s := S1x2048x1024) (k0_off2 c) S1x448x1024.size (k0_off2_inb c)) (fun _ => rfl)).squeeze S448x1024 squeezes_S1x448x1024_S448x1024
abbrev mysrc (c : Dev nD) : Memref sig .tc .hbm S512x1024 .f32 :=
  (xM.slice (Rect.unit (s := S1x2048x1024) (k0_off3 c) S1x512x1024.size (k0_off3_inb c)) (fun _ => rfl)).squeeze S512x1024 squeezes_S1x512x1024_S512x1024
abbrev restR : Rect S512x1024 := Rect.unit (s := S512x1024) ![64, 0] S448x1024.size inb_S512x1024_S448x1024_64_0
abbrev pRest : Memref sig .tc .vmem S448x1024 .f32 := pM.slice restR (fun _ => rfl)

/-! ## The semaphores -/

theorem sem_inb (i : Fin 8) : ∀ a, (![i.val] : Fin 1 → ℕ) a + S1.size a ≤ S8.size a := by revert i; decide

abbrev sm (a : DmaSems sig S8) (i : Fin 8) : DmaSem sig :=
  ((a.slice (Rect.unit (s := S8) ![i.val] S1.size (sem_inb i))).squeeze S_ squeezes_S1_S_).sem
abbrev psm0 : DmaSem sig := ((cc0_scratch9.slice (Rect.unit (s := S2) ![0] S1.size inb_S2_S1_0)).squeeze S_ squeezes_S1_S_).sem
abbrev psm1 : DmaSem sig := ((cc0_scratch9.slice (Rect.unit (s := S2) ![1] S1.size inb_S2_S1_1)).squeeze S_ squeezes_S1_S_).sem

abbrev barS : Sem sig := (SemArray.scalar (sig.barrier 0 rfl) : Sems sig S_).sem

abbrev barCell (c : Dev nD) : GSem nD τ sig := ((c : Thread nD τ), .reg barS)
abbrev dCell (c : Dev nD) (s : DmaSem sig) : GSem nD τ sig := ((c : Thread nD τ), .dma s)
abbrev xsCell (c : Dev nD) (i : Fin 8) : GSem nD τ sig := dCell c (sm cc0_scratch14 i)
abbrev xrCell (c : Dev nD) (i : Fin 8) : GSem nD τ sig := dCell c (sm cc0_scratch15 i)
abbrev ysCell (c : Dev nD) (i : Fin 8) : GSem nD τ sig := dCell c (sm cc0_scratch16 i)
abbrev yrCell (c : Dev nD) (i : Fin 8) : GSem nD τ sig := dCell c (sm cc0_scratch17 i)

/-- The kind and the chunk of a DMA semaphore, `none` for those of copies within the device. -/
def kind (s : DmaSem sig) : Option (Fin 4 × Fin 8) :=
  if h : 20 ≤ s.val then some (⟨(s.val - 20) / 8, by have := s.isLt; have h' : sig.nDmaSem = 52 := by decide
                                                     omega⟩, ⟨(s.val - 20) % 8, Nat.mod_lt _ (by decide)⟩) else none

theorem kind_xs (i : Fin 8) : kind (sm cc0_scratch14 i) = some (0, i) := by revert i; decide
theorem kind_xr (i : Fin 8) : kind (sm cc0_scratch15 i) = some (1, i) := by revert i; decide
theorem kind_ys (i : Fin 8) : kind (sm cc0_scratch16 i) = some (2, i) := by revert i; decide
theorem kind_yr (i : Fin 8) : kind (sm cc0_scratch17 i) = some (3, i) := by revert i; decide
theorem kind_o (i : Fin 8) : kind (sm cc0_scratch12 i) = none := by revert i; decide
theorem kind_o2 (i : Fin 8) : kind (sm cc0_scratch13 i) = none := by revert i; decide
theorem kind_p0 : kind psm0 = none := by decide
theorem kind_p1 : kind psm1 = none := by decide
theorem kind_m : kind (cc0_scratch10 : DmaSems sig S_).sem = none := by decide
theorem kind_g : kind (cc0_scratch11 : DmaSems sig S_).sem = none := by decide

/-! ## Amounts -/

/-- What one chunk of 64 rows in bf16 credits. -/
abbrev N : ℕ := (ch xrM 0).view.dmaCredit
theorem N_pos : 0 < N := View.dmaCredit_pos _ (by decide)

/-! ## Debts and levels -/

/-- What device `c` owes `xp c` for the chunks from `a` on. -/
def owedX (c : Dev nD) (a : ℕ) : CellTallies nD τ sig Unit :=
  ∑ i ∈ Finset.univ.filter (fun i : Fin 8 => a ≤ i.val), tallyAt (xrCell (xp c) i) () N
/-- What device `c` owes `yp c` for the chunks from `b` on. -/
def owedY (c : Dev nD) (b : ℕ) : CellTallies nD τ sig Unit :=
  ∑ i ∈ Finset.univ.filter (fun i : Fin 8 => b ≤ i.val), tallyAt (yrCell (yp c) i) () N
def owed (c : Dev nD) (a b : ℕ) : CellTallies nD τ sig Unit := owedX c a + owedY c b
def O₀ (c : Dev nD) : CellTallies nD τ sig Unit := (owed c 0 0 + tallyAt (barCell (yp c)) () 1) + tallyAt (barCell (xp c)) () 1

theorem filter_step (i : Fin 8) : Finset.univ.filter (fun j : Fin 8 => i.val ≤ j.val)
    = insert i (Finset.univ.filter (fun j : Fin 8 => i.val + 1 ≤ j.val)) := by revert i; decide
theorem filter_not (i : Fin 8) : i ∉ Finset.univ.filter (fun j : Fin 8 => i.val + 1 ≤ j.val) := by revert i; decide
theorem filter_end : Finset.univ.filter (fun j : Fin 8 => 8 ≤ j.val) = ∅ := by decide

theorem owedX_step (c : Dev nD) (i : Fin 8) : owedX c i.val = owedX c (i.val + 1) + tallyAt (xrCell (xp c) i) () N := by
  unfold owedX; rw [filter_step, Finset.sum_insert (filter_not i), add_comm]
theorem owedY_step (c : Dev nD) (i : Fin 8) : owedY c i.val = owedY c (i.val + 1) + tallyAt (yrCell (yp c) i) () N := by
  unfold owedY; rw [filter_step, Finset.sum_insert (filter_not i), add_comm]
theorem owed_stepX (c : Dev nD) (i : Fin 8) (b : ℕ) : owed c i.val b = owed c (i.val + 1) b + tallyAt (xrCell (xp c) i) () N := by
  unfold owed; rw [owedX_step, add_right_comm]
theorem owed_stepY (c : Dev nD) (a : ℕ) (i : Fin 8) : owed c a i.val = owed c a (i.val + 1) + tallyAt (yrCell (yp c) i) () N := by
  unfold owed; rw [owedY_step, add_assoc]
theorem owed_end (c : Dev nD) : owed c 8 8 = 0 := by
  unfold owed owedX owedY; rw [filter_end]; simp

theorem sum_pos {S : Finset (Fin 8)} {f : Fin 8 → CellTallies nD τ sig Unit} {g : GSem nD τ sig} {u : Unit}
    (h : 0 < (∑ i ∈ S, f i) g u) : ∃ i ∈ S, 0 < f i g u := by
  by_contra hn
  push Not at hn
  have : (∑ i ∈ S, f i) g u = 0 := by
    rw [Finset.sum_apply, Finsupp.finset_sum_apply]
    exact Finset.sum_eq_zero fun i hi => Nat.le_zero.mp (hn i hi)
  omega

theorem tally_pos {g g' : GSem nD τ sig} {u : Unit} {k : ℕ} (h : 0 < tallyAt g () k g' u) : g' = g := by
  rw [tallyAt_apply] at h
  by_contra hn
  rw [if_neg fun h' => hn h'.1] at h
  exact Nat.lt_irrefl 0 h

theorem owed_pos {c : Dev nD} {a b : ℕ} {g : GSem nD τ sig} {u : Unit} (h : 0 < owed c a b g u) :
    (∃ i : Fin 8, a ≤ i.val ∧ g = xrCell (xp c) i) ∨ (∃ i : Fin 8, b ≤ i.val ∧ g = yrCell (yp c) i) := by
  unfold owed at h
  rw [Pi.add_apply, Finsupp.add_apply] at h
  rcases Nat.add_pos_iff_pos_or_pos.mp h with h | h
  · obtain ⟨i, hi, hp⟩ := sum_pos h
    exact .inl ⟨i, (Finset.mem_filter.mp hi).2, tally_pos hp⟩
  · obtain ⟨i, hi, hp⟩ := sum_pos h
    exact .inr ⟨i, (Finset.mem_filter.mp hi).2, tally_pos hp⟩

def L (g : GSem nD τ sig) : Finset Unit := if g.1.2 = .tc then {()} else ∅
/-- Copies within the device and the completions of its own sends are waited for at level 0, the barrier at 1, the
    chunks of `xp c` at 2, chunk `j` of `yp c` at `3 + j`. -/
def lv (g : GSem nD τ sig) (_ : Unit) : ℕ :=
  match g.2 with
  | .reg _ => 1
  | .dma s => match kind s with
    | some (k, i) => if k = 1 then 2 else if k = 3 then 3 + i.val else 0
    | none => 0

theorem L_of_ne (g : GSem nD τ sig) (h : g.1.2 ≠ .tc) : L g = ∅ := if_neg h
theorem L_tc (c : Dev nD) (s : SemLoc sig) : L ((c : Thread nD τ), s) = {()} := if_pos rfl

theorem lv_bar (c : Dev nD) : lv (barCell c) () = 1 := rfl
theorem lv_xs (c : Dev nD) (i : Fin 8) : lv (xsCell c i) () = 0 := by dsimp only [lv]; rw [kind_xs]; rfl
theorem lv_xr (c : Dev nD) (i : Fin 8) : lv (xrCell c i) () = 2 := by dsimp only [lv]; rw [kind_xr]; rfl
theorem lv_ys (c : Dev nD) (i : Fin 8) : lv (ysCell c i) () = 0 := by dsimp only [lv]; rw [kind_ys]; rfl
theorem lv_yr (c : Dev nD) (i : Fin 8) : lv (yrCell c i) () = 3 + i.val := by dsimp only [lv]; rw [kind_yr]; rfl
theorem lv_local (c : Dev nD) (s : DmaSem sig) (h : kind s = none) : lv (dCell c s) () = 0 := by dsimp only [lv]; rw [h]

/-- A device that still owes chunks may wait at a cell below the levels of all of them. -/
theorem mayWait_owed (c : Dev nD) (s : SemLoc sig) (a b : ℕ)
    (hx : a < 8 → lv ((c : Thread nD τ), s) () < 2) (hy : b < 8 → lv ((c : Thread nD τ), s) () < 3 + b) :
    (levAts L lv : sProp 𝕄) ⊢ MayWait (c : Thread nD τ) s () (owed c a b) :=
  MayOwe.of_cut (L := L) (lev := lv) (lv ((c : Thread nD τ), s) ())
    (fun p hp => by rw [Finset.mem_singleton.mp hp, L_tc]; exact Finset.mem_singleton_self _)
    (fun g u hg => by
      rcases owed_pos hg with ⟨i, -, rfl⟩ | ⟨i, -, rfl⟩ <;> rw [L_tc] <;> exact Finset.mem_singleton_self _)
    (fun p hp => by rw [Finset.mem_singleton.mp hp])
    (fun g u hg => by
      rcases owed_pos hg with ⟨i, hi, rfl⟩ | ⟨i, hi, rfl⟩
      · rw [lv_xr]; exact hx (Nat.lt_of_le_of_lt hi i.isLt)
      · rw [lv_yr]; exact Nat.lt_of_lt_of_le (hy (Nat.lt_of_le_of_lt hi i.isLt)) (by omega))

theorem mayWait_local (c : Dev nD) (s : DmaSem sig) (h : kind s = none) (a b : ℕ) :
    (levAts L lv : sProp 𝕄) ⊢ MayWait (c : Thread nD τ) (.dma s) () (owed c a b) :=
  mayWait_owed c (.dma s) a b (fun _ => by rw [lv_local c s h]; decide) (fun _ => by rw [lv_local c s h]; omega)
theorem mayWait_bar (c : Dev nD) : (levAts L lv : sProp 𝕄) ⊢ MayWait (c : Thread nD τ) (.reg barS) () (owed c 0 0) :=
  mayWait_owed c _ 0 0 (fun _ => by rw [lv_bar]; decide) (fun _ => by rw [lv_bar]; decide)
theorem mayWait_xr (c : Dev nD) (i : Fin 8) (b : ℕ) :
    (levAts L lv : sProp 𝕄) ⊢ MayWait (c : Thread nD τ) (.dma (sm cc0_scratch15 i)) () (owed c 8 b) :=
  mayWait_owed c _ 8 b (fun h => absurd h (by decide)) (fun _ => by rw [lv_xr]; omega)
theorem mayWait_yr (c : Dev nD) (i : Fin 8) (b : ℕ) (h : i.val < b) :
    (levAts L lv : sProp 𝕄) ⊢ MayWait (c : Thread nD τ) (.dma (sm cc0_scratch17 i)) () (owed c 8 b) :=
  mayWait_owed c _ 8 b (fun h => absurd h (by decide)) (fun _ => by rw [lv_yr]; omega)

end Cert.Swap

end
-- ==== Proof.Contents.lean ====
/-
# What the buffers hold

`a0 c` and `a1 c` are the two arguments of device `c`. Each buffer of 512 rows gets one function of the whole buffer; a
chunk holds that function on its own 64 rows.
-/
module

public import proofs.«01_k».proof.Proof.Common

@[expose] public section

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-- A buffer of 512 rows from its eight chunks. -/
def ofChunks {α : Type} (v : Fin 8 → S64x1024.Idx → α) : S512x1024.Idx → α := fun j =>
  v ⟨(j 0).val / 64, by have h : (j 0).val < 512 := (j 0).isLt
                        omega⟩ (ix2 ⟨(j 0).val % 64, Nat.mod_lt _ (by decide)⟩ (j 1))

/-- The chunk of a buffer of 512 rows. -/
def chunkOf {α : Type} (f : S512x1024.Idx → α) (i : Fin 8) : S64x1024.Idx → α := fun j => f ((cr i).emb j)

theorem chunkOf_ofChunks {α : Type} (v : Fin 8 → S64x1024.Idx → α) (i : Fin 8) : chunkOf (ofChunks v) i = v i := by
  funext j
  have h : (j 0).val < 64 := (j 0).isLt
  have e : ((cr i).emb j 0).val = 64 * i.val + (j 0).val := by
    rw [Rect.emb_apply]; show 64 * i.val + 1 * (j 0).val = _; omega
  have e1 : ((cr i).emb j 1).val = (j 1).val := by
    rw [Rect.emb_apply]; show 0 + 1 * (j 1).val = _; omega
  unfold chunkOf ofChunks
  have hi : (⟨((cr i).emb j 0).val / 64, by rw [e]; have := i.isLt; omega⟩ : Fin 8) = i := Fin.ext (by show _ / 64 = _; rw [e]; omega)
  have hj : (ix2 ⟨((cr i).emb j 0).val % 64, Nat.mod_lt _ (by decide)⟩ ((cr i).emb j 1) : S64x1024.Idx) = j := by
    funext a
    refine Fin.cases ?_ (fun b => ?_) a
    · exact Fin.ext (by show _ % 64 = _; rw [e]; omega)
    · have hb : b = 0 := Subsingleton.elim _ _
      subst hb
      exact Fin.ext e1
  exact (congrArg (fun k => v k _) hi).trans (congrArg (v i) hj)

/-- Row `b + r` of a device's first argument, `b` a base that leaves room for 512 rows. -/
def rowsAt (f : S1x2048x1024.Idx → Elt F .f32) (b : ℕ) : S512x1024.Idx → Elt F .f32 := fun j =>
  f (ix3 (⟨0, Nat.one_pos⟩ : Fin 1) ⟨(b + (j 0).val) % 2048, Nat.mod_lt _ (by decide)⟩ (j 1))

def pBase (c : Dev nD) : ℕ := (512 * ((c.val / 4) % 2) + 1024) - 1024 * (c.val / 8)
def myBase (c : Dev nD) : ℕ := 1024 * (c.val / 8) + 512 * ((c.val / 4) % 2)

def pV (c : Dev nD) : S512x1024.Idx → Elt F .f32 := rowsAt (a0 c) (pBase c)
def myV (c : Dev nD) : S512x1024.Idx → Elt F .f32 := rowsAt (a0 c) (myBase c)
def sV (c : Dev nD) : S512x1024.Idx → Elt F .bf16 := ofChunks fun i => k0_pay1 (F := F) (chunkOf (pV a0 c) i)
def xV (c : Dev nD) : S512x1024.Idx → Elt F .bf16 := sV a0 (xp c)
def nC (c : Dev nD) (i : Fin 8) : S64x1024.Idx → Elt F .f32 :=
  k0_pay17 (F := F) (k0_pay9 (a1 c)) (chunkOf (myV a0 c) i) (chunkOf (xV a0 c) i)
def nV (c : Dev nD) : S512x1024.Idx → Elt F .f32 := ofChunks (nC a0 a1 c)
def ysC (c : Dev nD) (i : Fin 8) : S64x1024.Idx → Elt F .bf16 :=
  k0_pay18 (F := F) (k0_pay16 (k0_pay9 (a1 c)) (chunkOf (myV a0 c) i) (chunkOf (xV a0 c) i))
def ysV (c : Dev nD) : S512x1024.Idx → Elt F .bf16 := ofChunks (ysC a0 a1 c)
def yV (c : Dev nD) : S512x1024.Idx → Elt F .bf16 := ysV a0 a1 (yp c)
def uC (c : Dev nD) (i : Fin 8) : S64x1024.Idx → Elt F .f32 := k0_pay23 (F := F) (chunkOf (yV a0 a1 c) i)
def uV (c : Dev nD) : S512x1024.Idx → Elt F .f32 := ofChunks (uC a0 a1 c)

/-- The result: the half of the device's own `y` is its own, the other half comes from `yp c`. -/
def outV (c : Dev nD) : S1024x1024.Idx → Elt F .f32 := fun j =>
  if (j 0).val / 512 = (c.val / 4) % 2 then
    nV a0 a1 c (ix2 ⟨(j 0).val % 512, Nat.mod_lt _ (by decide)⟩ (j 1))
  else uV a0 a1 c (ix2 ⟨(j 0).val % 512, Nat.mod_lt _ (by decide)⟩ (j 1))

/-! ## Copies move these -/

theorem idx2_ext {n k : ℕ} {x y : (⟨2, ![n, k]⟩ : Shape).Idx} (h0 : (x 0).val = (y 0).val) (h1 : (x 1).val = (y 1).val) : x = y := by
  funext a
  match a with
  | ⟨0, _⟩ => exact Fin.ext h0
  | ⟨1, _⟩ => exact Fin.ext h1

theorem idx2_eta {n k : ℕ} (x : (⟨2, ![n, k]⟩ : Shape).Idx) : x = ix2 (x 0) (x 1) := idx2_ext rfl rfl

/-- Dropping a leading unit axis. -/
theorem resh {n k : ℕ} (h : (⟨2, ![n, k]⟩ : Shape).numel = (⟨3, ![1, n, k]⟩ : Shape).numel) (x : (⟨2, ![n, k]⟩ : Shape).Idx) :
    Shape.reshapeEquiv h x = ix3 (⟨0, Nat.one_pos⟩ : Fin 1) (x 0) (x 1) :=
  (congrArg (Shape.reshapeEquiv h) (idx2_eta x)).trans (reshapeEquiv_ix2_1ab h (x 0) (x 1))

theorem idx3_ext {l n k : ℕ} {x y : (⟨3, ![l, n, k]⟩ : Shape).Idx} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

theorem dev_bounds (c : Dev nD) : c.val / 8 < 2 ∧ (c.val / 4) % 2 < 2 := by
  have h : c.val < 16 := c.isLt
  omega

theorem p0_read (c : Dev nD) : (p0src c).view.read (Elt F) (a0 c) = (ch pM 0).view.read (Elt F) (pV a0 c) := by
  funext x
  have hx : (x 0).val < 64 := (x 0).isLt
  have hc := dev_bounds c
  have e := k0_off1_eq c
  show a0 c ((Rect.unit (s := S1x2048x1024) (k0_off1 c) S1x64x1024.size (k0_off1_inb c)).emb (Shape.reshapeEquiv _ x)) = rowsAt (a0 c) (pBase c) ((cr 0).emb x)
  unfold rowsAt
  refine congrArg (a0 c) ?_
  rw [resh]
  refine idx3_ext ?_ ?_ ?_
  · show k0_off1 c 0 + 1 * 0 = 0
    rw [e]; rfl
  · show k0_off1 c 1 + 1 * (x 0).val = (pBase c + (64 * 0 + 1 * (x 0).val)) % 2048
    rw [e]; show (512 * ((c.val / 4) % 2) + 1024) - 1024 * (c.val / 8) + 1 * (x 0).val = _
    unfold pBase; omega
  · show k0_off1 c 2 + 1 * (x 1).val = 0 + 1 * (x 1).val
    rw [e]; rfl

theorem p1_read (c : Dev nD) : (p1src c).view.read (Elt F) (a0 c) = pRest.view.read (Elt F) (pV a0 c) := by
  funext x
  have hx : (x 0).val < 448 := (x 0).isLt
  have hc := dev_bounds c
  have e := k0_off2_eq c
  show a0 c ((Rect.unit (s := S1x2048x1024) (k0_off2 c) S1x448x1024.size (k0_off2_inb c)).emb (Shape.reshapeEquiv _ x)) = rowsAt (a0 c) (pBase c) (restR.emb x)
  unfold rowsAt
  refine congrArg (a0 c) ?_
  rw [resh]
  refine idx3_ext ?_ ?_ ?_
  · show k0_off2 c 0 + 1 * 0 = 0
    rw [e]; rfl
  · show k0_off2 c 1 + 1 * (x 0).val = (pBase c + (64 + 1 * (x 0).val)) % 2048
    rw [e]; show (512 * ((c.val / 4) % 2) + 1088) - 1024 * (c.val / 8) + 1 * (x 0).val = _
    unfold pBase; omega
  · show k0_off2 c 2 + 1 * (x 1).val = 0 + 1 * (x 1).val
    rw [e]; rfl

theorem my_read (c : Dev nD) : (mysrc c).view.read (Elt F) (a0 c) = myV a0 c := by
  funext x
  have hx : (x 0).val < 512 := (x 0).isLt
  have hc := dev_bounds c
  have e := k0_off3_eq c
  show a0 c ((Rect.unit (s := S1x2048x1024) (k0_off3 c) S1x512x1024.size (k0_off3_inb c)).emb (Shape.reshapeEquiv _ x)) = rowsAt (a0 c) (myBase c) x
  unfold rowsAt
  refine congrArg (a0 c) ?_
  rw [resh]
  refine idx3_ext ?_ ?_ ?_
  · show k0_off3 c 0 + 1 * 0 = 0
    rw [e]; rfl
  · show k0_off3 c 1 + 1 * (x 0).val = (myBase c + (x 0).val) % 2048
    rw [e]; show 1024 * (c.val / 8) + 512 * ((c.val / 4) % 2) + 1 * (x 0).val = _
    unfold myBase; omega
  · show k0_off3 c 2 + 1 * (x 1).val = (x 1).val
    rw [e]; show 0 + 1 * (x 1).val = _; omega

/-- The rows of the result the device writes itself. -/
theorem out1_read (c : Dev nD) (i : Fin 8) : (out1 c i).view.read (Elt F) (outV a0 a1 c) = chunkOf (nV a0 a1 c) i := by
  funext x
  have hx : (x 0).val < 64 := (x 0).isLt
  have hc := dev_bounds c
  have e := k0_off4_eq c i
  have hi := i.isLt
  show outV a0 a1 c ((Rect.unit (s := S1024x1024) (k0_off4 c (BitVec.ofNat 32 (64 * i.val))) S64x1024.size (k0_off4_inb c i)).emb x) = nV a0 a1 c ((cr i).emb x)
  set y := (Rect.unit (s := S1024x1024) (k0_off4 c (BitVec.ofNat 32 (64 * i.val))) S64x1024.size (k0_off4_inb c i)).emb x with hy
  have y0 : (y 0).val = 512 * ((c.val / 4) % 2) + 64 * i.val + (x 0).val := by
    rw [hy, Rect.emb_apply]
    show k0_off4 c (BitVec.ofNat 32 (64 * i.val)) 0 + 1 * (x 0).val = _
    rw [e, Nat.one_mul]; rfl
  have y1 : (y 1).val = (x 1).val := by
    rw [hy, Rect.emb_apply]
    show k0_off4 c (BitVec.ofNat 32 (64 * i.val)) 1 + 1 * (x 1).val = _
    rw [e, Nat.one_mul]; show 0 + _ = _; omega
  unfold outV
  rw [if_pos (by rw [y0]; omega)]
  refine congrArg (nV a0 a1 c) (idx2_ext ?_ ?_)
  · show (y 0).val % 512 = 64 * i.val + 1 * (x 0).val
    rw [y0]; omega
  · show (y 1).val = 0 + 1 * (x 1).val
    rw [y1]; omega

/-- The rows of the result that come from the device across `y`. -/
theorem out2_read (c : Dev nD) (i : Fin 8) : (out2 c i).view.read (Elt F) (outV a0 a1 c) = chunkOf (uV a0 a1 c) i := by
  funext x
  have hx : (x 0).val < 64 := (x 0).isLt
  have hc := dev_bounds c
  have e := k0_off5_eq c i
  have hi := i.isLt
  show outV a0 a1 c ((Rect.unit (s := S1024x1024) (k0_off5 c (BitVec.ofNat 32 (64 * i.val))) S64x1024.size (k0_off5_inb c i)).emb x) = uV a0 a1 c ((cr i).emb x)
  set y := (Rect.unit (s := S1024x1024) (k0_off5 c (BitVec.ofNat 32 (64 * i.val))) S64x1024.size (k0_off5_inb c i)).emb x with hy
  have y0 : (y 0).val = (64 * i.val + 512) - 512 * ((c.val / 4) % 2) + (x 0).val := by
    rw [hy, Rect.emb_apply]
    show k0_off5 c (BitVec.ofNat 32 (64 * i.val)) 0 + 1 * (x 0).val = _
    rw [e, Nat.one_mul]; rfl
  have y1 : (y 1).val = (x 1).val := by
    rw [hy, Rect.emb_apply]
    show k0_off5 c (BitVec.ofNat 32 (64 * i.val)) 1 + 1 * (x 1).val = _
    rw [e, Nat.one_mul]; show 0 + _ = _; omega
  unfold outV
  rw [if_neg (by rw [y0]; omega)]
  refine congrArg (uV a0 a1 c) (idx2_ext ?_ ?_)
  · show (y 0).val % 512 = 64 * i.val + 1 * (x 0).val
    rw [y0]; omega
  · show (y 1).val = 0 + 1 * (x 1).val
    rw [y1]; omega

/-! ## Pieces of a buffer -/

/-- A write through a view of what the view reads of `g` leaves `g` on the view's elements. -/
theorem write_eq_on {κ : Kind} {sp : Space} {s : Shape} {e : EltTy} (v : View sig κ sp s e) (f g : v.ty.Contents (Elt F))
    (w : s.Idx → Elt F e) (h : w = v.read (Elt F) g) : ∀ i ∈ v.set, v.write (Elt F) f w Finset.univ i = g i := by
  intro i hi
  obtain ⟨x, -, rfl⟩ := Finset.mem_map.mp hi
  rw [View.write_emb_of_mem _ _ (Finset.mem_univ x), h, View.read_apply, cast_cast, cast_eq]

theorem disj_cr (i j : Fin 8) (h : i ≠ j) : Disjoint (cr i).set (cr j).set :=
  Ring.lead_disjoint (s := S512x1024) 0 64 (fun i : Fin 8 => ![64 * i.val, 0]) S64x1024.size chunk_inb (fun _ => rfl) rfl i j h

theorem cover_cr : (Finset.univ : Finset (Fin 8)).biUnion (fun i => (cr i).set) = Finset.univ := by
  refine Finset.eq_univ_iff_forall.mpr fun j => Finset.mem_biUnion.mpr ?_
  have h0 : (j 0).val < 512 := (j 0).isLt
  have h1 : (j 1).val < 1024 := (j 1).isLt
  refine ⟨⟨(j 0).val / 64, by omega⟩, Finset.mem_univ _, (Rect.mem_set_unit).mpr fun a => ?_⟩
  match a with
  | ⟨0, _⟩ => exact ⟨by show 64 * ((j 0).val / 64) ≤ (j 0).val; omega, by show (j 0).val < 64 * ((j 0).val / 64) + 64; omega⟩
  | ⟨1, _⟩ => exact ⟨Nat.zero_le _, by show (j 1).val < 0 + 1024; omega⟩

/-- The rows after the first chunk are the seven other chunks. -/
theorem rest_set : restR.set = (Finset.univ.filter (fun i : Fin 8 => 1 ≤ i.val)).biUnion (fun i => (cr i).set) := by
  ext j
  have h0 : (j 0).val < 512 := (j 0).isLt
  have h1 : (j 1).val < 1024 := (j 1).isLt
  rw [Rect.mem_set_unit, Finset.mem_biUnion]
  constructor
  · intro h
    have h64 : 64 ≤ (j 0).val := (h 0).1
    refine ⟨⟨(j 0).val / 64, by omega⟩, Finset.mem_filter.mpr ⟨Finset.mem_univ _, by show 1 ≤ (j 0).val / 64; omega⟩, (Rect.mem_set_unit).mpr fun a => ?_⟩
    match a with
    | ⟨0, _⟩ => exact ⟨by show 64 * ((j 0).val / 64) ≤ (j 0).val; omega, by show (j 0).val < 64 * ((j 0).val / 64) + 64; omega⟩
    | ⟨1, _⟩ => exact ⟨Nat.zero_le _, by show (j 1).val < 0 + 1024; omega⟩
  · rintro ⟨i, hi, hj⟩ a
    have hi := (Finset.mem_filter.mp hi).2
    rw [Rect.mem_set_unit] at hj
    have hl : 64 * i.val ≤ (j 0).val := (hj 0).1
    match a with
    | ⟨0, _⟩ => exact ⟨by show 64 ≤ (j 0).val; omega, by show (j 0).val < 64 + 448; omega⟩
    | ⟨1, _⟩ => exact ⟨Nat.zero_le _, by show (j 1).val < 0 + 1024; omega⟩

end Cert.Swap

end
-- ==== Proof.Sched.lean ====
/-
# The schedule of the cells

Every cell has one round. The barrier cell of a device is paid by its two neighbours, each with the whole buffer its own
chunks will land in; a send cell is paid by its own transfer with the chunk that was read; an arrival cell is paid by the
sender's transfer with the landed chunk.
-/
module

public import proofs.«01_k».proof.Proof.Contents

@[expose] public section

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-- Chunk `i` of a buffer of 512 rows on device `c`, holding `f` there. -/
def cpts {e : EltTy} (b : Memref sig .tc .vmem S512x1024 e) (c : Dev nD) (i : Fin 8) (f : Buf (Elt F) ((ch b i).view.loc (c : Thread nD τ))) : sProp 𝕄 :=
  (ch b i).view.loc (c : Thread nD τ) ↦[(ch b i).view.set]{fullShare} f

instance cpts_storable {e : EltTy} (b : Memref sig .tc .vmem S512x1024 e) (c : Dev nD) (i : Fin 8) (f) :
    BI.Storable (upEmb : UEmb _ 𝕄) (cpts (F := F) b c i f) := by unfold cpts; infer_instance

/-- A whole buffer of a device, holding anything. -/
def anyW (b : Ref sig .tc) (c : Dev nD) : sProp 𝕄 := iprop(∃ f : Buf (Elt F) ((c : Thread nD τ).loc b), ((c : Thread nD τ).loc b) ↦{fullShare} f)

instance anyW_storable (b : Ref sig .tc) (c : Dev nD) : BI.Storable (upEmb : UEmb _ 𝕄) (anyW (F := F) b c) := by unfold anyW; infer_instance

def barPay (c : Dev nD) (d : Bool) : sProp 𝕄 := if d then anyW cc0_scratch8 (yp c) else anyW cc0_scratch6 (xp c)
def dmaPay (c : Dev nD) (k : Fin 4) (i : Fin 8) : sProp 𝕄 :=
  match k with
  | ⟨0, _⟩ => cpts xsM c i (sV a0 c)
  | ⟨1, _⟩ => cpts xrM c i (xV a0 c)
  | ⟨2, _⟩ => cpts ysM c i (ysV a0 a1 c)
  | ⟨_ + 3, _⟩ => cpts yrM c i (yV a0 a1 c)

instance barPay_storable (c : Dev nD) (d : Bool) : BI.Storable (upEmb : UEmb _ 𝕄) (barPay (F := F) c d) := by
  unfold barPay; split <;> infer_instance
instance dmaPay_storable (c : Dev nD) (k : Fin 4) (i : Fin 8) : BI.Storable (upEmb : UEmb _ 𝕄) (dmaPay a0 a1 c k i) := by
  unfold dmaPay; split <;> infer_instance

def Rd : Rounds.Schedule (GSem nD τ sig) Bool 𝕄 where
  duties g r := if r = 0 ∧ g.1.2 = .tc then
      (match g.2 with
        | .reg s => if s = barS then Finset.univ else ∅
        | .dma s => match kind s with
          | some _ => {false}
          | none => ∅)
    else ∅
  unitless _ := False
  amount g _ _ := match g.2 with
    | .reg _ => 1
    | .dma _ => N
  payload g _ d := match g.2 with
    | .reg _ => barPay g.1.1 d
    | .dma s => match kind s with
      | some (k, i) => dmaPay a0 a1 g.1.1 k i
      | none => iprop(emp)
  amount_pos g _ _ _ := by
    rcases g with ⟨t, _ | _⟩
    · exact Nat.one_pos
    · exact N_pos

instance Rd_payload_storable (g : GSem nD τ sig) (r : ℕ) (d : Bool) : BI.Storable (upEmb : UEmb _ 𝕄) ((Rd a0 a1).payload g r d) := by
  rcases g with ⟨t, s | s⟩
  · show BI.Storable upEmb (barPay t.1 d); infer_instance
  · show BI.Storable upEmb (match kind s with
      | some (k, i) => dmaPay a0 a1 t.1 k i
      | none => iprop(emp))
    split <;> infer_instance

/-! ## The table, cell by cell -/

section Table
variable (c : Dev nD) (s : DmaSem sig) (k : Fin 4) (i : Fin 8)

theorem duties_bar : (Rd a0 a1).duties (barCell c) 0 = Finset.univ := by
  show (if (0 : ℕ) = 0 ∧ (Kind.tc : Kind) = .tc then (if barS = barS then (Finset.univ : Finset Bool) else ∅) else ∅) = _
  rw [if_pos ⟨rfl, rfl⟩, if_pos rfl]
theorem duties_dma (h : kind s = some (k, i)) : (Rd a0 a1).duties (dCell c s) 0 = {false} := by
  show (if (0 : ℕ) = 0 ∧ (Kind.tc : Kind) = .tc then (match kind s with
          | some _ => {false}
          | none => ∅) else ∅) = _
  rw [if_pos ⟨rfl, rfl⟩, h]
theorem duties_later (g : GSem nD τ sig) : ∀ r, 1 ≤ r → (Rd a0 a1).duties g r = ∅ :=
  fun r hr => by dsimp only [Rd]; exact if_neg fun h => by omega

theorem amount_bar (d : Bool) : (Rd a0 a1).amount (barCell c) 0 d = 1 := rfl
theorem amount_dma (d : Bool) : (Rd a0 a1).amount (dCell c s) 0 d = N := rfl

theorem expect_bar : (Rd a0 a1).expect (barCell c) 0 = 2 := by
  unfold Schedule.expect Schedule.amountOf; rw [duties_bar, Finset.sum_congr rfl fun d _ => amount_bar a0 a1 c d]; rfl
theorem expect_dma (h : kind s = some (k, i)) : (Rd a0 a1).expect (dCell c s) 0 = N := by
  unfold Schedule.expect Schedule.amountOf; rw [duties_dma a0 a1 c s k i h, Finset.sum_singleton, amount_dma]

theorem payload_bar (d : Bool) : (Rd a0 a1).payload (barCell c) 0 d = barPay c d := rfl
theorem payload_dma (h : kind s = some (k, i)) (d : Bool) : (Rd a0 a1).payload (dCell c s) 0 d = dmaPay a0 a1 c k i := by
  show (match kind s with
      | some (k, i) => dmaPay a0 a1 c k i
      | none => iprop(emp)) = _
  rw [h]

theorem rest_bar : bigSep ((Rd a0 a1).duties (barCell c) 0 \ ∅) (fun d => (Rd a0 a1).payload (barCell c) 0 d)
    = (iprop(anyW cc0_scratch6 (xp c) ∗ anyW cc0_scratch8 (yp c)) : sProp 𝕄) := by
  rw [Finset.sdiff_empty, duties_bar]
  exact bigSep_univ_eq_bigSepL [false, true] (by decide) (by decide) _
theorem rest_dma (h : kind s = some (k, i)) : bigSep ((Rd a0 a1).duties (dCell c s) 0 \ ∅) (fun d => (Rd a0 a1).payload (dCell c s) 0 d)
    = dmaPay a0 a1 c k i := by
  rw [Finset.sdiff_empty, duties_dma a0 a1 c s k i h, bigSep_singleton, payload_dma a0 a1 c s k i h]

end Table

/-! ## Names of the cells; the records every device keeps -/

/-- A cell of a device: the barrier, or a kind and a chunk. -/
abbrev CK : Type := Option (Fin 4 × Fin 8)
def semOf (k : Fin 4) (i : Fin 8) : DmaSem sig :=
  match k with
  | ⟨0, _⟩ => sm cc0_scratch14 i
  | ⟨1, _⟩ => sm cc0_scratch15 i
  | ⟨2, _⟩ => sm cc0_scratch16 i
  | ⟨_ + 3, _⟩ => sm cc0_scratch17 i
theorem kind_semOf (k : Fin 4) (i : Fin 8) : kind (semOf k i) = some (k, i) := by revert k i; decide
def slotOf (k : CK) : SemLoc sig :=
  match k with
  | none => .reg barS
  | some (k, i) => .dma (semOf k i)
abbrev kcell (ck : Dev nD × CK) : GSem nD τ sig := ((ck.1 : Thread nD τ), slotOf ck.2)

def records (K : Dev nD × CK → ℕ) : sProp 𝕄 :=
  iprop((bigSep Finset.univ fun ck : Dev nD × CK => cellInv ER (Rd a0 a1) (K ck) (kcell ck))
    ∗ (bigSep Finset.univ fun ck : Dev nD × CK => reached ER (kcell ck) 0) ∗ levAts L lv)
instance records_persistent (K : Dev nD × CK → ℕ) : BI.Persistent (records a0 a1 K) := by unfold records; infer_instance

theorem elim_at {I : Type} [DecidableEq I] [Fintype I] {Φ : I → sProp 𝕄} (i : I) : (bigSep Finset.univ Φ : sProp 𝕄) ⊢ Φ i :=
  bigSep_elim (Finset.mem_univ i)
theorem inv_at (K : Dev nD × CK → ℕ) (ck : Dev nD × CK) : records a0 a1 K ⊢ cellInv ER (Rd a0 a1) (K ck) (kcell ck) := by
  unfold records; iintro ⟨H, -⟩; iapply (elim_at (Φ := fun ck : Dev nD × CK => (cellInv ER (Rd a0 a1) (K ck) (kcell ck) : sProp 𝕄)) ck); iexact H
theorem reached_at (K : Dev nD × CK → ℕ) (ck : Dev nD × CK) : records a0 a1 K ⊢ reached ER (kcell ck) 0 := by
  unfold records; iintro ⟨-, H, -⟩; iapply (elim_at (Φ := fun ck : Dev nD × CK => (reached ER (kcell ck) 0 : sProp 𝕄)) ck); iexact H
theorem lev_at (K : Dev nD × CK → ℕ) : records a0 a1 K ⊢ (levAts L lv : sProp 𝕄) := by
  unfold records; iintro ⟨-, -, H⟩; iexact H

end Cert.Swap

end
-- ==== Proof.Steps.lean ====
/-
# The steps of one chunk

One lemma per step of a chunk, the chunk's number a variable: the program's part is matched by shape, and what follows it
is left open.
-/
module

public import proofs.«01_k».proof.Proof.Sched

@[expose] public section

set_option maxRecDepth 8000

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, its recorded waits left open. -/
def ow (c : Dev nD) (O : CellTallies nD τ sig Unit) : sProp 𝕄 := iprop(∃ W : Waits sig Unit, owes (c : Thread nD τ) O W)

/-- A chunk holding anything. -/
def anyC {e : EltTy} (b : Memref sig .tc .vmem S512x1024 e) (c : Dev nD) (i : Fin 8) : sProp 𝕄 :=
  iprop(∃ f : Buf (Elt F) ((ch b i).view.loc (c : Thread nD τ)), cpts b c i f)
/-- A piece of the result holding `f` there, or anything. -/
def opts (o : Memref sig .tc .hbm S64x1024 .f32) (c : Dev nD) (f : Buf (Elt F) (o.view.loc (c : Thread nD τ))) : sProp 𝕄 :=
  o.view.loc (c : Thread nD τ) ↦[o.view.set]{fullShare} f
def anyO (o : Memref sig .tc .hbm S64x1024 .f32) (c : Dev nD) : sProp 𝕄 :=
  iprop(∃ f : Buf (Elt F) (o.view.loc (c : Thread nD τ)), opts o c f)

/-! ## The states of a chunk -/

/-- The sends to `xp c`: the chunk to be written, its tokens, and the landing place on `xp c`. -/
def A0 (c : Dev nD) (i : Fin 8) : sProp 𝕄 :=
  iprop(anyC xsM c i ∗ dutyTok ER (xsCell c i) 0 false ∗ dutyTok ER (xrCell (xp c) i) 0 false ∗ anyC xrM (xp c) i ∗ atPos ER (xsCell c i) 0 ∅ 0)
def A1 (c : Dev nD) (i : Fin 8) : sProp 𝕄 :=
  iprop(cpts xsM c i (sV a0 c) ∗ dutyTok ER (xsCell c i) 0 false ∗ dutyTok ER (xrCell (xp c) i) 0 false ∗ anyC xrM (xp c) i ∗ atPos ER (xsCell c i) 0 ∅ 0)
def A2 (c : Dev nD) (i : Fin 8) : sProp 𝕄 := iprop(cred (tallyAt (xsCell c i) () N) ∗ atPos ER (xsCell c i) 0 ∅ 0)
def A3 (c : Dev nD) (i : Fin 8) : sProp 𝕄 := iprop(cpts xsM c i (sV a0 c) ∗ semVal (xsCell c i) 0)

/-- The sum with the chunk of `xp c`, normalised, and its copy into the result. -/
def B0 (c : Dev nD) (i : Fin 8) : sProp 𝕄 :=
  iprop(cpts myM c i (myV a0 c) ∗ (cred (tallyAt (xrCell c i) () N) ∗ atPos ER (xrCell c i) 0 ∅ 0) ∗ anyC oM c i ∗ semVal (dCell c (sm cc0_scratch12 i)) 0 ∗ anyO (out1 c i) c)
def B1 (c : Dev nD) (i : Fin 8) : sProp 𝕄 :=
  iprop(cpts myM c i (myV a0 c) ∗ (cpts xrM c i (xV a0 c) ∗ semVal (xrCell c i) 0) ∗ anyC oM c i ∗ semVal (dCell c (sm cc0_scratch12 i)) 0 ∗ anyO (out1 c i) c)
def B2 (c : Dev nD) (i : Fin 8) : sProp 𝕄 :=
  iprop(cpts myM c i (myV a0 c) ∗ (cpts xrM c i (xV a0 c) ∗ semVal (xrCell c i) 0) ∗ cpts oM c i (nV a0 a1 c) ∗ semVal (dCell c (sm cc0_scratch12 i)) 0 ∗ anyO (out1 c i) c)
def B3 (c : Dev nD) (i : Fin 8) : sProp 𝕄 :=
  iprop(cpts myM c i (myV a0 c) ∗ (cpts xrM c i (xV a0 c) ∗ semVal (xrCell c i) 0)
    ∗ Transfers.Flight EC (c : Thread nD τ) (.dma (sm cc0_scratch12 i)) () (out1 c i).view.dmaCredit iprop(opts (out1 c i) c (outV a0 a1 c) ∗ cpts oM c i (nV a0 a1 c)))
def B4 (c : Dev nD) (i : Fin 8) : sProp 𝕄 :=
  iprop(cpts myM c i (myV a0 c) ∗ (cpts xrM c i (xV a0 c) ∗ semVal (xrCell c i) 0) ∗ cpts oM c i (nV a0 a1 c) ∗ semVal (dCell c (sm cc0_scratch12 i)) 0
    ∗ opts (out1 c i) c (outV a0 a1 c))

/-- The sends to `yp c`. -/
def Y0 (c : Dev nD) (i : Fin 8) : sProp 𝕄 :=
  iprop(anyC ysM c i ∗ dutyTok ER (ysCell c i) 0 false ∗ dutyTok ER (yrCell (yp c) i) 0 false ∗ anyC yrM (yp c) i ∗ atPos ER (ysCell c i) 0 ∅ 0)
def Y1 (c : Dev nD) (i : Fin 8) : sProp 𝕄 :=
  iprop(cpts ysM c i (ysV a0 a1 c) ∗ dutyTok ER (ysCell c i) 0 false ∗ dutyTok ER (yrCell (yp c) i) 0 false ∗ anyC yrM (yp c) i ∗ atPos ER (ysCell c i) 0 ∅ 0)
def Y2 (c : Dev nD) (i : Fin 8) : sProp 𝕄 := iprop(cred (tallyAt (ysCell c i) () N) ∗ atPos ER (ysCell c i) 0 ∅ 0)
def Y3 (c : Dev nD) (i : Fin 8) : sProp 𝕄 := iprop(cpts ysM c i (ysV a0 a1 c) ∗ semVal (ysCell c i) 0)

/-- The chunk that comes from `yp c`, and its copy into the result. -/
def C0 (c : Dev nD) (i : Fin 8) : sProp 𝕄 :=
  iprop((cred (tallyAt (yrCell c i) () N) ∗ atPos ER (yrCell c i) 0 ∅ 0) ∗ anyC uM c i ∗ semVal (dCell c (sm cc0_scratch13 i)) 0 ∗ anyO (out2 c i) c)
def C1 (c : Dev nD) (i : Fin 8) : sProp 𝕄 :=
  iprop((cpts yrM c i (yV a0 a1 c) ∗ semVal (yrCell c i) 0) ∗ anyC uM c i ∗ semVal (dCell c (sm cc0_scratch13 i)) 0 ∗ anyO (out2 c i) c)
def C2 (c : Dev nD) (i : Fin 8) : sProp 𝕄 :=
  iprop((cpts yrM c i (yV a0 a1 c) ∗ semVal (yrCell c i) 0) ∗ cpts uM c i (uV a0 a1 c) ∗ semVal (dCell c (sm cc0_scratch13 i)) 0 ∗ anyO (out2 c i) c)
def C3 (c : Dev nD) (i : Fin 8) : sProp 𝕄 :=
  iprop((cpts yrM c i (yV a0 a1 c) ∗ semVal (yrCell c i) 0)
    ∗ Transfers.Flight EC (c : Thread nD τ) (.dma (sm cc0_scratch13 i)) () (out2 c i).view.dmaCredit iprop(opts (out2 c i) c (outV a0 a1 c) ∗ cpts uM c i (uV a0 a1 c)))
def C4 (c : Dev nD) (i : Fin 8) : sProp 𝕄 :=
  iprop((cpts yrM c i (yV a0 a1 c) ∗ semVal (yrCell c i) 0) ∗ cpts uM c i (uV a0 a1 c) ∗ semVal (dCell c (sm cc0_scratch13 i)) 0
    ∗ opts (out2 c i) c (outV a0 a1 c))

/-! ## Loads and stores of a chunk -/

theorem ld {e : EltTy} (b : Memref sig .tc .vmem S512x1024 e) (c : Dev nD) (i : Fin 8) (f : Buf (Elt F) ((ch b i).view.loc (c : Thread nD τ)))
    {hl : b.view.LoadsAt (cr i).toLoadRect} {α : Type} {Q : α → sProp 𝕄} {k : (S64x1024.Idx → Elt F e) → Prog (TpuEff nD τ sig (Elt F) Λ₀ .tc) α} :
    cpts b c i f ⊢ iprop((cpts b c i f -∗ WP c (k ((ch b i).view.read (Elt F) f)) Q) -∗ WP c (.op (.load b (cr i).toLoadRect hl) k) Q) := by
  unfold cpts
  exact wp_load_rect 𝒱₀ (c : Thread nD τ) none Set.univ (m := b) (r := cr i) (k := k) (S := (ch b i).view.set) subset_rfl

theorem st {e : EltTy} (b : Memref sig .tc .vmem S512x1024 e) (c : Dev nD) (i : Fin 8) (g : Buf (Elt F) ((ch b i).view.loc (c : Thread nD τ)))
    (w : S64x1024.Idx → Elt F e) (hw : w = (ch b i).view.read (Elt F) g)
    {hx : (b.access (cr i)).Stores Finset.univ} {hm : (Finset.univ : Finset (cr i).shape.Idx) = Finset.univ ∨ ∀ a, (cr i).stride a = 1}
    {α : Type} {Q : α → sProp 𝕄} {k : PUnit → Prog (TpuEff nD τ sig (Elt F) Λ₀ .tc) α} :
    anyC b c i ⊢ iprop((cpts b c i g -∗ WP c (k ⟨⟩) Q) -∗ WP c (.op (.store b (cr i) w Finset.univ hx hm) k) Q) := by
  unfold anyC cpts
  iintro ⟨%f, H⟩ Hk
  iapply (wp_store 𝒱₀ (c : Thread nD τ) none Set.univ (m := b) (r := cr i) (w := w) (Mk := Finset.univ) (hx := hx) (hm := hm) (k := k) (S := (ch b i).view.set) (f := f) subset_rfl) $$ H
  iintro H
  iapply Hk
  iapply (Entails.of_eq (pointsTo_congr (write_eq_on (ch b i).view f g w hw)))
  iexact H

/-- A load whose value nothing reads. -/
theorem ldAny {e : EltTy} (b : Memref sig .tc .vmem S512x1024 e) (c : Dev nD) (i : Fin 8)
    {hl : b.view.LoadsAt (cr i).toLoadRect} {α : Type} {Q : α → sProp 𝕄} {p : Prog (TpuEff nD τ sig (Elt F) Λ₀ .tc) α} :
    anyC b c i ⊢ iprop((anyC b c i -∗ WP c p Q) -∗ WP c (.op (.load b (cr i).toLoadRect hl) fun _ => p) Q) := by
  unfold anyC
  iintro ⟨%f, H⟩ Hk
  iapply (ld b c i f) $$ H
  iintro H
  iapply Hk
  iexists f; iexact H

/-! ## The steps -/

section Steps
variable (K : Dev nD × CK → ℕ) (c : Dev nD) (i : Fin 8)

theorem stepA1 {hl : pM.view.LoadsAt (cr i).toLoadRect} {hl' : xsM.view.LoadsAt (cr i).toLoadRect} {hx : (xsM.access (cr i)).Stores Finset.univ}
    {hm : (Finset.univ : Finset (cr i).shape.Idx) = Finset.univ ∨ ∀ a, (cr i).stride a = 1}
    {α : Type} {Q : α → sProp 𝕄} {k : PUnit → Prog (TpuEff nD τ sig (Elt F) Λ₀ .tc) α} :
    iprop(cpts pM c i (pV a0 c) ∗ A0 c i) ⊢ iprop((iprop(cpts pM c i (pV a0 c) ∗ A1 a0 c i) -∗ WP c (k ⟨⟩) Q)
      -∗ WP c (.op (.load pM (cr i).toLoadRect hl) fun v => .op (.load xsM (cr i).toLoadRect hl') fun _ => .op (.store xsM (cr i) (k0_pay1 v) Finset.univ hx hm) k) Q) := by
  unfold A0 A1
  iintro ⟨Hp, Hs, Hr⟩ Hk
  iapply (ld pM c i (pV a0 c)) $$ Hp; iintro Hp
  iapply (ldAny xsM c i) $$ Hs; iintro Hs
  have hw : k0_pay1 (F := F) (chunkOf (pV a0 c) i) = (ch xsM i).view.read (Elt F) (sV a0 c) :=
    (chunkOf_ofChunks (fun i => k0_pay1 (F := F) (chunkOf (pV a0 c) i)) i).symm
  iapply (st xsM c i (sV a0 c) _ hw) $$ Hs; iintro Hs
  iapply Hk
  isplitl [Hp]; · iexact Hp
  isplitl [Hs] <;> iassumption

/-- A transfer of a chunk to a neighbour's buffer, paying its own send cell and the neighbour's arrival cell. -/
theorem send {b₁ b₂ : Memref sig .tc .vmem S512x1024 .bf16} (n p : Dev nD) (hn : n = p) (ks kr : Fin 4) (s r : DmaSem sig) (hs : semOf ks i = s) (hr : semOf kr i = r)
    (g₁ : Buf (Elt F) ((ch b₁ i).view.loc (c : Thread nD τ))) (g₂ : Buf (Elt F) ((ch b₂ i).view.loc (p : Thread nD τ)))
    (hN : (ch b₂ i).view.dmaCredit = N)
    (h₁ : dmaPay a0 a1 c ks i = cpts b₁ c i g₁) (h₂ : dmaPay a0 a1 p kr i = cpts b₂ p i g₂)
    (hg : (ch b₁ i).view.read (Elt F) g₁ = (ch b₂ i).view.read (Elt F) g₂)
    {O' O : CellTallies nD τ sig Unit} (hO : O' = O + tallyAt (dCell p r) () N)
    {hsc : (ch b₂ i : Memref sig (Dev.tc n : Thread nD τ).2.kind .vmem S64x1024 .bf16).view.ref.isScScratch = false}
    {hsrc : (ch b₁ i).view.WordExact} {hdst : (ch b₂ i).view.WordExact}
    {hsem : DmaTarget.Typed .vmem (.dma r) (.remote (Dev.tc n : Thread nD τ) (ch b₂ i : Memref sig .tc .vmem S64x1024 .bf16) (.dma s) hsc)}
    {α : Type} {Q : α → sProp 𝕄} {k : PUnit → Prog (TpuEff nD τ sig (Elt F) Λ₀ .tc) α} :
    iprop(records a0 a1 K ∗ cpts b₁ c i g₁ ∗ anyC b₂ p i ∗ ow c O' ∗ dutyTok ER (dCell c s) 0 false ∗ dutyTok ER (dCell p r) 0 false)
      ⊢ iprop((iprop(cred (tallyAt (dCell c s) () N) ∗ ow c O) -∗ WP c (k ⟨⟩) Q)
        -∗ WP c (.op (.enqueueDma (ch b₁ i) (.remote (Dev.tc n : Thread nD τ) (ch b₂ i) (.dma s) hsc) (.dma r) hsrc hdst hsem) k) Q) := by
  subst hn hs hr
  unfold ow anyC
  iintro ⟨#HR, Hs, ⟨%f, Hd⟩, ⟨%W, HO⟩, Ht₁, Ht₂⟩ Hk
  unfold cpts
  iapply (Rounds.wp_send_pointsTo 𝒱₀ ER (Rd a0 a1) (c : Thread nD τ) none (c' := (n : Thread nD τ)) (κ₁ := K (c, some (ks, i))) (κ₂ := K (n, some (kr, i)))
    (src := ch b₁ i) (dst := ch b₂ i) (fs := g₁) (fd := f) (hsc := hsc) (hsrc := hsrc) (hdst := hdst) (hsem := hsem) (k := k)
    (r₁ := 0) (r₂ := 0) (d₁ := false) (d₂ := false)
    (by rw [duties_dma a0 a1 c _ ks i (kind_semOf ks i)]; exact Finset.mem_singleton_self _)
    (by rw [duties_dma a0 a1 n _ kr i (kind_semOf kr i)]; exact Finset.mem_singleton_self _)
    () () N hN (amount_dma a0 a1 c _ _) (amount_dma a0 a1 n _ _) O hO (W := W)
    (by rw [payload_dma a0 a1 c _ ks i (kind_semOf ks i), h₁]; unfold cpts; exact BI.Entails.refl _)
    (by rw [payload_dma a0 a1 n _ kr i (kind_semOf kr i), h₂]; unfold cpts
        exact Entails.of_eq (pointsTo_congr (write_eq_on (ch b₂ i).view f g₂ _ hg)))) $$ [Hs Hd HO Ht₁ Ht₂]
  · isplitr; · iapply (inv_at a0 a1 K (c, some (ks, i))); iexact HR
    isplitr; · iapply (inv_at a0 a1 K (n, some (kr, i))); iexact HR
    isplitl [Hs]; · iexact Hs
    isplitl [Hd]; · iexact Hd
    isplitl [HO]; · iexact HO
    isplitl [Ht₁]; · iexact Ht₁
    isplitr; · iapply (reached_at a0 a1 K (c, some (ks, i))); iexact HR
    isplitl [Ht₂]; · iexact Ht₂
    iapply (reached_at a0 a1 K (n, some (kr, i))); iexact HR
  iintro ⟨Hc, HO⟩
  iapply Hk
  isplitl [Hc]; · iexact Hc
  iexists W; iexact HO

theorem stepA2 (n : Dev nD) (hn : n = xp c) (a a' b : ℕ) (ha : a = i.val) (ha' : a' = i.val + 1)
    {hsc : (ch xrM i : Memref sig (Dev.tc n : Thread nD τ).2.kind .vmem S64x1024 .bf16).view.ref.isScScratch = false}
    {hsrc : (ch xsM i).view.WordExact} {hdst : (ch xrM i).view.WordExact}
    {hsem : DmaTarget.Typed .vmem (.dma (sm cc0_scratch15 i)) (.remote (Dev.tc n : Thread nD τ) (ch xrM i : Memref sig .tc .vmem S64x1024 .bf16) (.dma (sm cc0_scratch14 i)) hsc)}
    {α : Type} {Q : α → sProp 𝕄} {k : PUnit → Prog (TpuEff nD τ sig (Elt F) Λ₀ .tc) α} :
    iprop(records a0 a1 K ∗ A1 a0 c i ∗ ow c (owed c a b)) ⊢ iprop((iprop(A2 c i ∗ ow c (owed c a' b)) -∗ WP c (k ⟨⟩) Q)
      -∗ WP c (.op (.enqueueDma (ch xsM i) (.remote (Dev.tc n : Thread nD τ) (ch xrM i) (.dma (sm cc0_scratch14 i)) hsc) (.dma (sm cc0_scratch15 i)) hsrc hdst hsem) k) Q) := by
  unfold A1 A2
  iintro ⟨#HR, ⟨Hs, Ht₁, Ht₂, Hd, Hat⟩, HO⟩ Hk
  iapply (send a0 a1 K c i (b₁ := xsM) (b₂ := xrM) n (xp c) hn 0 1 (sm cc0_scratch14 i) (sm cc0_scratch15 i) rfl rfl (sV a0 c) (xV a0 (xp c)) rfl rfl rfl
    (by unfold xV; rw [xp_xp]; rfl) (O' := owed c a b) (O := owed c a' b) (by rw [ha, ha']; exact owed_stepX c i b)) $$ [Hs Ht₁ Ht₂ Hd HO]
  · isplitr; · iexact HR
    isplitl [Hs]; · iexact Hs
    isplitl [Hd]; · iexact Hd
    isplitl [HO]; · iexact HO
    isplitl [Ht₁] <;> iassumption
  iintro ⟨Hc, HO⟩
  iapply Hk
  isplitl [Hc Hat]; · isplitl [Hc] <;> iassumption
  iexact HO

theorem stepB4 (n : Dev nD) (hn : n = yp c) (a b b' : ℕ) (hb : b = i.val) (hb' : b' = i.val + 1)
    {hsc : (ch yrM i : Memref sig (Dev.tc n : Thread nD τ).2.kind .vmem S64x1024 .bf16).view.ref.isScScratch = false}
    {hsrc : (ch ysM i).view.WordExact} {hdst : (ch yrM i).view.WordExact}
    {hsem : DmaTarget.Typed .vmem (.dma (sm cc0_scratch17 i)) (.remote (Dev.tc n : Thread nD τ) (ch yrM i : Memref sig .tc .vmem S64x1024 .bf16) (.dma (sm cc0_scratch16 i)) hsc)}
    {α : Type} {Q : α → sProp 𝕄} {k : PUnit → Prog (TpuEff nD τ sig (Elt F) Λ₀ .tc) α} :
    iprop(records a0 a1 K ∗ Y1 a0 a1 c i ∗ ow c (owed c a b)) ⊢ iprop((iprop(Y2 c i ∗ ow c (owed c a b')) -∗ WP c (k ⟨⟩) Q)
      -∗ WP c (.op (.enqueueDma (ch ysM i) (.remote (Dev.tc n : Thread nD τ) (ch yrM i) (.dma (sm cc0_scratch16 i)) hsc) (.dma (sm cc0_scratch17 i)) hsrc hdst hsem) k) Q) := by
  unfold Y1 Y2
  iintro ⟨#HR, ⟨Hs, Ht₁, Ht₂, Hd, Hat⟩, HO⟩ Hk
  iapply (send a0 a1 K c i (b₁ := ysM) (b₂ := yrM) n (yp c) hn 2 3 (sm cc0_scratch16 i) (sm cc0_scratch17 i) rfl rfl (ysV a0 a1 c) (yV a0 a1 (yp c)) rfl rfl rfl
    (by unfold yV; rw [yp_yp]; rfl) (O' := owed c a b) (O := owed c a b') (by rw [hb, hb']; exact owed_stepY c a i)) $$ [Hs Ht₁ Ht₂ Hd HO]
  · isplitr; · iexact HR
    isplitl [Hs]; · iexact Hs
    isplitl [Hd]; · iexact Hd
    isplitl [HO]; · iexact HO
    isplitl [Ht₁] <;> iassumption
  iintro ⟨Hc, HO⟩
  iapply Hk
  isplitl [Hc Hat]; · isplitl [Hc] <;> iassumption
  iexact HO

/-- A wait at one of the scheduled DMA cells: its payload comes, and the cell closes at zero. -/
theorem waitCell (kd : Fin 4) (s : DmaSem sig) (hs : semOf kd i = s) {sp sp' : Space} {S S' : Shape} {e e' : EltTy}
    {srcw : Memref sig .tc sp' S' e'} {dstw : Memref sig .tc sp S e} {hsrc : srcw.view.WordExact} {hdst : dstw.view.WordExact}
    (hN : dstw.view.dmaCredit = N) (O : CellTallies nD τ sig Unit) (hmw : (levAts L lv : sProp 𝕄) ⊢ MayWait (c : Thread nD τ) (.dma s) () O)
    {α : Type} {Q : α → sProp 𝕄} {k : PUnit → Prog (TpuEff nD τ sig (Elt F) Λ₀ .tc) α} :
    iprop(records a0 a1 K ∗ (cred (tallyAt (dCell c s) () N) ∗ atPos ER (dCell c s) 0 ∅ 0) ∗ ow c O)
      ⊢ iprop((iprop((dmaPay a0 a1 c kd i ∗ semVal (dCell c s) 0) ∗ ow c O) -∗ WP c (k ⟨⟩) Q)
        -∗ WP c (.op (.waitDma2 s srcw dstw hsrc hdst) k) Q) := by
  subst hs
  have hm : records a0 a1 K ⊢ MayWait (c : Thread nD τ) (.dma (semOf kd i)) () O := (lev_at a0 a1 K).trans hmw
  unfold ow
  iintro ⟨#HR, ⟨Hc, Hat⟩, ⟨%W, HO⟩⟩ Hk
  rw [← hN]
  iapply (Rounds.wp_wait_rest_token 𝒱₀ ER (Rd a0 a1) (c : Thread nD τ) none (κ := K (c, some (kd, i)))
      (wpE_waitDma2_eq 𝒱₀ (c : Thread nD τ) none Set.univ) (Set.mem_univ _) () (O := O) (W := W) (R := 0) (m := 0) (T := ∅)
      (by rw [Nat.zero_add, expect_dma a0 a1 c _ kd i (kind_semOf kd i), hN])) $$ [Hc HO Hat]
  · isplitr; · iapply (inv_at a0 a1 K (c, some (kd, i))); iexact HR
    isplitl [Hc]; · iexact Hc
    isplitl [HO]; · iexact HO
    isplitr; · iapply hm; iexact HR
    iexact Hat
  iintro ⟨HO, Hat, -, Hpay⟩
  ihave Hp := (Entails.of_eq (rest_dma a0 a1 c (semOf kd i) kd i (kind_semOf kd i))) $$ Hpay
  imod (Rounds.cell_close ER (Rd a0 a1) (Set.mem_univ (K (c, some (kd, i)))) (fun h => h) (R := 0 + 1) (duties_later a0 a1 (dCell c (semOf kd i)))) $$ [Hat] with Hz
  · isplitr; · iapply (inv_at a0 a1 K (c, some (kd, i))); iexact HR
    iexact Hat
  iapply Hk
  isplitl [Hp Hz]
  · isplitl [Hp] <;> iassumption
  iexists (insert (SemLoc.dma (semOf kd i), ()) W)
  iexact HO

/-- A wait for a copy within the device. -/
theorem waitLocal (s : DmaSem sig) (hs : kind s = none) {sp sp' : Space} {S S' : Shape} {e e' : EltTy}
    {srcw : Memref sig .tc sp' S' e'} {dstw : Memref sig .tc sp S e} {hsrc : srcw.view.WordExact} {hdst : dstw.view.WordExact}
    (n : ℕ) (hN : dstw.view.dmaCredit = n) (D : sProp 𝕄) (a b : ℕ)
    {α : Type} {Q : α → sProp 𝕄} {k : PUnit → Prog (TpuEff nD τ sig (Elt F) Λ₀ .tc) α} :
    iprop(records a0 a1 K ∗ Transfers.Flight EC (c : Thread nD τ) (.dma s) () n D ∗ ow c (owed c a b))
      ⊢ iprop((iprop(D ∗ semVal (dCell c s) 0 ∗ ow c (owed c a b)) -∗ WP c (k ⟨⟩) Q)
        -∗ WP c (.op (.waitDma2 s srcw dstw hsrc hdst) k) Q) := by
  have hm : records a0 a1 K ⊢ MayWait (c : Thread nD τ) (.dma s) () (owed c a b) := (lev_at a0 a1 K).trans (mayWait_local c s hs a b)
  unfold ow
  iintro ⟨#HR, Hf, ⟨%W, HO⟩⟩ Hk
  iapply (Transfers.wp_waitLocalO EC 𝒱₀ (c : Thread nD τ) none () hN (D := D) (O := owed c a b) (W := W)) $$ [Hf HO]
  · isplitl [Hf]; · iexact Hf
    isplitl [HO]; · iexact HO
    iapply hm; iexact HR
  iintro ⟨HD, Hv, HO⟩
  iapply Hk
  isplitl [HD]; · iexact HD
  isplitl [Hv]; · iexact Hv
  iexists (insert (SemLoc.dma s, ()) W)
  iexact HO

/-- A copy of a chunk to its place in the result. -/
theorem copyOut (b : Memref sig .tc .vmem S512x1024 .f32) (o : Memref sig .tc .hbm S64x1024 .f32) (s : DmaSem sig)
    (g : Buf (Elt F) ((ch b i).view.loc (c : Thread nD τ))) (h : Buf (Elt F) (o.view.loc (c : Thread nD τ)))
    (hg : (ch b i).view.read (Elt F) g = o.view.read (Elt F) h)
    {hsrc : (ch b i).view.WordExact} {hdst : o.view.WordExact} {hsem : DmaTarget.Typed (nD := nD) (τ := τ) (p := .tc) .vmem (.dma s) (.here o)}
    {α : Type} {Q : α → sProp 𝕄} {k : PUnit → Prog (TpuEff nD τ sig (Elt F) Λ₀ .tc) α} :
    iprop(cpts b c i g ∗ anyO o c ∗ semVal (dCell c s) 0)
      ⊢ iprop((Transfers.Flight EC (c : Thread nD τ) (.dma s) () o.view.dmaCredit iprop(opts o c h ∗ cpts b c i g) -∗ WP c (k ⟨⟩) Q)
        -∗ WP c (.op (.enqueueDma (ch b i) (.here o) (.dma s) hsrc hdst hsem) k) Q) := by
  unfold anyO
  iintro ⟨Hs, ⟨%f, Hd⟩, Hv⟩ Hk
  unfold opts cpts
  rw [← pointsTo_congr (ℓ := o.view.loc (c : Thread nD τ)) (I := o.view.set) (g := h) (write_eq_on o.view f h _ hg)]
  iapply (Transfers.wp_dmaLocal EC 𝒱₀ (c : Thread nD τ) none (src := ch b i) (dst := o) (fs := g) (fd := f) (Sd := o.view.set) () o.view.dmaCredit rfl
    (View.dmaCredit_pos _ (by decide)) subset_rfl) $$ [Hs Hd Hv]
  · isplitl [Hs]; · iexact Hs
    isplitl [Hd]; · iexact Hd
    iexact Hv
  iintro Hf
  iapply Hk
  iexact Hf

/-- The chunk of `xp c` arrives; both summands are loaded. -/
theorem stepB1 (b : ℕ) {hsrc : (ch xsM i).view.WordExact} {hdst : (ch xrM i).view.WordExact}
    {hl : myM.view.LoadsAt (cr i).toLoadRect} {hl' : xrM.view.LoadsAt (cr i).toLoadRect}
    {α : Type} {Q : α → sProp 𝕄} {k : (S64x1024.Idx → Elt F .f32) → (S64x1024.Idx → Elt F .bf16) → Prog (TpuEff nD τ sig (Elt F) Λ₀ .tc) α} :
    iprop(records a0 a1 K ∗ B0 a0 c i ∗ ow c (owed c 8 b))
      ⊢ iprop((iprop(B1 a0 c i ∗ ow c (owed c 8 b)) -∗ WP c (k (chunkOf (myV a0 c) i) (chunkOf (xV a0 c) i)) Q)
      -∗ WP c (.op (.waitDma2 (sm cc0_scratch15 i) (ch xsM i) (ch xrM i) hsrc hdst) fun _ =>
          .op (.load myM (cr i).toLoadRect hl) fun v => .op (.load xrM (cr i).toLoadRect hl') fun w => k v w) Q) := by
  unfold B0 B1
  iintro ⟨#HR, ⟨Hm, Hx, Hr⟩, HO⟩ Hk
  iapply (waitCell a0 a1 K c i (srcw := ch xsM i) (dstw := ch xrM i) (hsrc := hsrc) (hdst := hdst) 1 (sm cc0_scratch15 i) rfl rfl (owed c 8 b) (mayWait_xr c i b)) $$ [Hx HO]
  · isplitr; · iexact HR
    isplitl [Hx] <;> iassumption
  iintro ⟨⟨Hx, Hz⟩, HO⟩
  ihave Hx := (Entails.of_eq (show dmaPay a0 a1 c 1 i = cpts xrM c i (xV a0 c) from rfl)) $$ Hx
  iapply (ld myM c i (myV a0 c)) $$ Hm; iintro Hm
  iapply (ld xrM c i (xV a0 c)) $$ Hx; iintro Hx
  iapply Hk
  isplitl [Hm Hx Hz Hr]
  · isplitl [Hm]; · iexact Hm
    isplitl [Hx Hz]; · isplitl [Hx] <;> iassumption
    iexact Hr
  iexact HO

/-- The normalised sum is stored. -/
theorem stepB2 {hl : oM.view.LoadsAt (cr i).toLoadRect} {hx : (oM.access (cr i)).Stores Finset.univ}
    {hm : (Finset.univ : Finset (cr i).shape.Idx) = Finset.univ ∨ ∀ a, (cr i).stride a = 1}
    {α : Type} {Q : α → sProp 𝕄} {k : PUnit → Prog (TpuEff nD τ sig (Elt F) Λ₀ .tc) α} :
    B1 a0 c i ⊢ iprop((B2 a0 a1 c i -∗ WP c (k ⟨⟩) Q)
      -∗ WP c (.op (.load oM (cr i).toLoadRect hl) fun _ => .op (.store oM (cr i)
          (k0_pay17 (F := F) (k0_pay9 (a1 c)) (chunkOf (myV a0 c) i) (chunkOf (xV a0 c) i)) Finset.univ hx hm) k) Q) := by
  unfold B1 B2
  iintro ⟨Hm, Hx, Ho, Hr⟩ Hk
  iapply (ldAny oM c i) $$ Ho; iintro Ho
  have hw : nC a0 a1 c i = (ch oM i).view.read (Elt F) (nV a0 a1 c) := (chunkOf_ofChunks (nC a0 a1 c) i).symm
  iapply (st oM c i (nV a0 a1 c) _ hw) $$ Ho; iintro Ho
  iapply Hk
  isplitl [Hm]; · iexact Hm
  isplitl [Hx]; · iexact Hx
  isplitl [Ho] <;> iassumption

/-- Its copy to the result starts, and its bf16 copy is stored for `yp c`. -/
theorem stepB3 {hsrc : (ch oM i).view.WordExact} {hdst : (out1 c i).view.WordExact}
    {hsem : DmaTarget.Typed (nD := nD) (τ := τ) (p := .tc) .vmem (.dma (sm cc0_scratch12 i)) (.here (out1 c i))}
    {hl : ysM.view.LoadsAt (cr i).toLoadRect} {hx : (ysM.access (cr i)).Stores Finset.univ}
    {hm : (Finset.univ : Finset (cr i).shape.Idx) = Finset.univ ∨ ∀ a, (cr i).stride a = 1}
    {α : Type} {Q : α → sProp 𝕄} {k : PUnit → Prog (TpuEff nD τ sig (Elt F) Λ₀ .tc) α} :
    iprop(B2 a0 a1 c i ∗ Y0 c i) ⊢ iprop((iprop(B3 a0 a1 c i ∗ Y1 a0 a1 c i) -∗ WP c (k ⟨⟩) Q)
      -∗ WP c (.op (.enqueueDma (ch oM i) (.here (out1 c i)) (.dma (sm cc0_scratch12 i)) hsrc hdst hsem) fun _ =>
          .op (.load ysM (cr i).toLoadRect hl) fun _ => .op (.store ysM (cr i)
          (k0_pay18 (F := F) (k0_pay16 (k0_pay9 (a1 c)) (chunkOf (myV a0 c) i) (chunkOf (xV a0 c) i))) Finset.univ hx hm) k) Q) := by
  unfold B2 B3 Y0 Y1
  iintro ⟨⟨Hm, Hx, Ho, Hv, Hout⟩, ⟨Hy, Hr⟩⟩ Hk
  iapply (copyOut c i oM (out1 c i) (sm cc0_scratch12 i) (nV a0 a1 c) (outV a0 a1 c) (out1_read a0 a1 c i).symm) $$ [Ho Hv Hout]
  · isplitl [Ho]; · iexact Ho
    isplitl [Hout] <;> iassumption
  iintro Hf
  iapply (ldAny ysM c i) $$ Hy; iintro Hy
  have hw : ysC a0 a1 c i = (ch ysM i).view.read (Elt F) (ysV a0 a1 c) := (chunkOf_ofChunks (ysC a0 a1 c) i).symm
  iapply (st ysM c i (ysV a0 a1 c) _ hw) $$ Hy; iintro Hy
  iapply Hk
  isplitl [Hm Hx Hf]
  · isplitl [Hm]; · iexact Hm
    isplitl [Hx] <;> iassumption
  isplitl [Hy] <;> iassumption

/-- The chunk of `yp c` arrives. -/
theorem stepC1 (b : ℕ) (hb : i.val < b) {hsrc : (ch ysM i).view.WordExact} {hdst : (ch yrM i).view.WordExact}
    {α : Type} {Q : α → sProp 𝕄} {k : PUnit → Prog (TpuEff nD τ sig (Elt F) Λ₀ .tc) α} :
    iprop(records a0 a1 K ∗ C0 c i ∗ ow c (owed c 8 b))
      ⊢ iprop((iprop(C1 a0 a1 c i ∗ ow c (owed c 8 b)) -∗ WP c (k ⟨⟩) Q)
      -∗ WP c (.op (.waitDma2 (sm cc0_scratch17 i) (ch ysM i) (ch yrM i) hsrc hdst) k) Q) := by
  unfold C0 C1
  iintro ⟨#HR, ⟨Hx, Hr⟩, HO⟩ Hk
  iapply (waitCell a0 a1 K c i (srcw := ch ysM i) (dstw := ch yrM i) (hsrc := hsrc) (hdst := hdst) 3 (sm cc0_scratch17 i) rfl rfl (owed c 8 b) (mayWait_yr c i b hb)) $$ [Hx HO]
  · isplitr; · iexact HR
    isplitl [Hx] <;> iassumption
  iintro ⟨⟨Hx, Hz⟩, HO⟩
  ihave Hx := (Entails.of_eq (show dmaPay a0 a1 c 3 i = cpts yrM c i (yV a0 a1 c) from rfl)) $$ Hx
  iapply Hk
  isplitl [Hx Hz Hr]
  · isplitl [Hx Hz]; · isplitl [Hx] <;> iassumption
    iexact Hr
  iexact HO

/-- It is widened and stored. -/
theorem stepC2 {hl : yrM.view.LoadsAt (cr i).toLoadRect} {hl' : uM.view.LoadsAt (cr i).toLoadRect} {hx : (uM.access (cr i)).Stores Finset.univ}
    {hm : (Finset.univ : Finset (cr i).shape.Idx) = Finset.univ ∨ ∀ a, (cr i).stride a = 1}
    {α : Type} {Q : α → sProp 𝕄} {k : PUnit → Prog (TpuEff nD τ sig (Elt F) Λ₀ .tc) α} :
    C1 a0 a1 c i ⊢ iprop((C2 a0 a1 c i -∗ WP c (k ⟨⟩) Q)
      -∗ WP c (.op (.load yrM (cr i).toLoadRect hl) fun v => .op (.load uM (cr i).toLoadRect hl') fun _ => .op (.store uM (cr i)
          (k0_pay23 (F := F) v) Finset.univ hx hm) k) Q) := by
  unfold C1 C2
  iintro ⟨⟨Hy, Hz⟩, Hu, Hr⟩ Hk
  iapply (ld yrM c i (yV a0 a1 c)) $$ Hy; iintro Hy
  iapply (ldAny uM c i) $$ Hu; iintro Hu
  have hw : uC a0 a1 c i = (ch uM i).view.read (Elt F) (uV a0 a1 c) := (chunkOf_ofChunks (uC a0 a1 c) i).symm
  iapply (st uM c i (uV a0 a1 c) _ hw) $$ Hu; iintro Hu
  iapply Hk
  isplitl [Hy Hz]; · isplitl [Hy] <;> iassumption
  isplitl [Hu] <;> iassumption

/-- Its copy to the result starts. -/
theorem stepC3 {hsrc : (ch uM i).view.WordExact} {hdst : (out2 c i).view.WordExact}
    {hsem : DmaTarget.Typed (nD := nD) (τ := τ) (p := .tc) .vmem (.dma (sm cc0_scratch13 i)) (.here (out2 c i))}
    {α : Type} {Q : α → sProp 𝕄} {k : PUnit → Prog (TpuEff nD τ sig (Elt F) Λ₀ .tc) α} :
    C2 a0 a1 c i ⊢ iprop((C3 a0 a1 c i -∗ WP c (k ⟨⟩) Q)
      -∗ WP c (.op (.enqueueDma (ch uM i) (.here (out2 c i)) (.dma (sm cc0_scratch13 i)) hsrc hdst hsem) k) Q) := by
  unfold C2 C3
  iintro ⟨Hy, Hu, Hv, Hout⟩ Hk
  iapply (copyOut c i uM (out2 c i) (sm cc0_scratch13 i) (uV a0 a1 c) (outV a0 a1 c) (out2_read a0 a1 c i).symm) $$ [Hu Hv Hout]
  · isplitl [Hu]; · iexact Hu
    isplitl [Hout] <;> iassumption
  iintro Hf
  iapply Hk
  isplitl [Hy] <;> iassumption

/-! The closing waits. -/

theorem waitO {hsrc : (ch oM i).view.WordExact} {hdst : (out1 c i).view.WordExact}
    {α : Type} {Q : α → sProp 𝕄} {k : PUnit → Prog (TpuEff nD τ sig (Elt F) Λ₀ .tc) α} :
    iprop(records a0 a1 K ∗ B3 a0 a1 c i ∗ ow c (owed c 8 8))
      ⊢ iprop((iprop(B4 a0 a1 c i ∗ ow c (owed c 8 8)) -∗ WP c (k ⟨⟩) Q)
      -∗ WP c (.op (.waitDma2 (sm cc0_scratch12 i) (ch oM i) (out1 c i) hsrc hdst) k) Q) := by
  unfold B3 B4
  iintro ⟨#HR, ⟨Hm, Hx, Hf⟩, HO⟩ Hk
  iapply (waitLocal a0 a1 K c (srcw := ch oM i) (dstw := out1 c i) (hsrc := hsrc) (hdst := hdst) (sm cc0_scratch12 i) (kind_o i) (out1 c i).view.dmaCredit rfl iprop(opts (out1 c i) c (outV a0 a1 c) ∗ cpts oM c i (nV a0 a1 c)) 8 8) $$ [Hf HO]
  · isplitr; · iexact HR
    isplitl [Hf] <;> iassumption
  iintro ⟨⟨Hout, Ho⟩, Hv, HO⟩
  iapply Hk
  isplitl [Hm Hx Hout Ho Hv]
  · isplitl [Hm]; · iexact Hm
    isplitl [Hx]; · iexact Hx
    isplitl [Ho]; · iexact Ho
    isplitl [Hv] <;> iassumption
  iexact HO

theorem waitO2 {hsrc : (ch uM i).view.WordExact} {hdst : (out2 c i).view.WordExact}
    {α : Type} {Q : α → sProp 𝕄} {k : PUnit → Prog (TpuEff nD τ sig (Elt F) Λ₀ .tc) α} :
    iprop(records a0 a1 K ∗ C3 a0 a1 c i ∗ ow c (owed c 8 8))
      ⊢ iprop((iprop(C4 a0 a1 c i ∗ ow c (owed c 8 8)) -∗ WP c (k ⟨⟩) Q)
      -∗ WP c (.op (.waitDma2 (sm cc0_scratch13 i) (ch uM i) (out2 c i) hsrc hdst) k) Q) := by
  unfold C3 C4
  iintro ⟨#HR, ⟨Hy, Hf⟩, HO⟩ Hk
  iapply (waitLocal a0 a1 K c (srcw := ch uM i) (dstw := out2 c i) (hsrc := hsrc) (hdst := hdst) (sm cc0_scratch13 i) (kind_o2 i) (out2 c i).view.dmaCredit rfl iprop(opts (out2 c i) c (outV a0 a1 c) ∗ cpts uM c i (uV a0 a1 c)) 8 8) $$ [Hf HO]
  · isplitr; · iexact HR
    isplitl [Hf] <;> iassumption
  iintro ⟨⟨Hout, Ho⟩, Hv, HO⟩
  iapply Hk
  isplitl [Hy Hout Ho Hv]
  · isplitl [Hy]; · iexact Hy
    isplitl [Ho]; · iexact Ho
    isplitl [Hv] <;> iassumption
  iexact HO

theorem mayWait_end (s : DmaSem sig) :
    (levAts L lv : sProp 𝕄) ⊢ MayWait (c : Thread nD τ) (.dma s) () (owed c 8 8) :=
  mayWait_owed c _ 8 8 (fun h => absurd h (by decide)) (fun h => absurd h (by decide))

theorem waitXs {hsrc : (ch xrM i).view.WordExact} {hdst : (ch xsM i).view.WordExact}
    {α : Type} {Q : α → sProp 𝕄} {k : PUnit → Prog (TpuEff nD τ sig (Elt F) Λ₀ .tc) α} :
    iprop(records a0 a1 K ∗ A2 c i ∗ ow c (owed c 8 8))
      ⊢ iprop((iprop(A3 a0 c i ∗ ow c (owed c 8 8)) -∗ WP c (k ⟨⟩) Q)
      -∗ WP c (.op (.waitDma2 (sm cc0_scratch14 i) (ch xrM i) (ch xsM i) hsrc hdst) k) Q) := by
  unfold A2 A3
  iintro ⟨#HR, Hx, HO⟩ Hk
  iapply (waitCell a0 a1 K c i (srcw := ch xrM i) (dstw := ch xsM i) (hsrc := hsrc) (hdst := hdst) 0 (sm cc0_scratch14 i) rfl rfl (owed c 8 8) (mayWait_end c _)) $$ [Hx HO]
  · isplitr; · iexact HR
    isplitl [Hx] <;> iassumption
  iintro ⟨⟨Hx, Hz⟩, HO⟩
  ihave Hx := (Entails.of_eq (show dmaPay a0 a1 c 0 i = cpts xsM c i (sV a0 c) from rfl)) $$ Hx
  iapply Hk
  isplitl [Hx Hz]
  · isplitl [Hx] <;> iassumption
  iexact HO

theorem waitYs {hsrc : (ch yrM i).view.WordExact} {hdst : (ch ysM i).view.WordExact}
    {α : Type} {Q : α → sProp 𝕄} {k : PUnit → Prog (TpuEff nD τ sig (Elt F) Λ₀ .tc) α} :
    iprop(records a0 a1 K ∗ Y2 c i ∗ ow c (owed c 8 8))
      ⊢ iprop((iprop(Y3 a0 a1 c i ∗ ow c (owed c 8 8)) -∗ WP c (k ⟨⟩) Q)
      -∗ WP c (.op (.waitDma2 (sm cc0_scratch16 i) (ch yrM i) (ch ysM i) hsrc hdst) k) Q) := by
  unfold Y2 Y3
  iintro ⟨#HR, Hx, HO⟩ Hk
  iapply (waitCell a0 a1 K c i (srcw := ch yrM i) (dstw := ch ysM i) (hsrc := hsrc) (hdst := hdst) 2 (sm cc0_scratch16 i) rfl rfl (owed c 8 8) (mayWait_end c _)) $$ [Hx HO]
  · isplitr; · iexact HR
    isplitl [Hx] <;> iassumption
  iintro ⟨⟨Hx, Hz⟩, HO⟩
  ihave Hx := (Entails.of_eq (show dmaPay a0 a1 c 2 i = cpts ysM c i (ysV a0 a1 c) from rfl)) $$ Hx
  iapply Hk
  isplitl [Hx Hz]
  · isplitl [Hx] <;> iassumption
  iexact HO

end Steps

end Cert.Swap

end
-- ==== Proof.Pieces.lean ====
/-
# Copies in, and the pieces of the buffers

A buffer of 512 rows is its eight chunks; the argument is the three regions the copies read and the rest; the result is
sixteen pieces of 64 rows.
-/
module

public import proofs.«01_k».proof.Proof.Steps

@[expose] public section

set_option maxRecDepth 8000

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-! ## The copies in -/

/-- What a memref shows of its buffer on device `c`, holding `f`, or anything. -/
def vpts {sp : Space} {S : Shape} {e : EltTy} (m : Memref sig .tc sp S e) (c : Dev nD) (f : Buf (Elt F) (m.view.loc (c : Thread nD τ))) : sProp 𝕄 :=
  m.view.loc (c : Thread nD τ) ↦[m.view.set]{fullShare} f
def anyV {sp : Space} {S : Shape} {e : EltTy} (m : Memref sig .tc sp S e) (c : Dev nD) : sProp 𝕄 :=
  iprop(∃ f : Buf (Elt F) (m.view.loc (c : Thread nD τ)), vpts m c f)

theorem copyIn {sp sp' : Space} {S : Shape} {e : EltTy} (c : Dev nD) (src : Memref sig .tc sp' S e) (dst : Memref sig .tc sp S e) (s : DmaSem sig)
    (fs : Buf (Elt F) (src.view.loc (c : Thread nD τ))) (g : Buf (Elt F) (dst.view.loc (c : Thread nD τ)))
    (hg : src.view.read (Elt F) fs = dst.view.read (Elt F) g) (hp : 0 < dst.view.dmaCredit)
    {hsrc : src.view.WordExact} {hdst : dst.view.WordExact} {hsem : DmaTarget.Typed (nD := nD) (τ := τ) (p := .tc) sp' (.dma s) (.here dst)}
    {α : Type} {Q : α → sProp 𝕄} {k : PUnit → Prog (TpuEff nD τ sig (Elt F) Λ₀ .tc) α} :
    iprop(vpts src c fs ∗ anyV dst c ∗ semVal (dCell c s) 0)
      ⊢ iprop((Transfers.Flight EC (c : Thread nD τ) (.dma s) () dst.view.dmaCredit iprop(vpts dst c g ∗ vpts src c fs) -∗ WP c (k ⟨⟩) Q)
        -∗ WP c (.op (.enqueueDma src (.here dst) (.dma s) hsrc hdst hsem) k) Q) := by
  unfold anyV
  iintro ⟨Hs, ⟨%f, Hd⟩, Hv⟩ Hk
  unfold vpts
  rw [← pointsTo_congr (ℓ := dst.view.loc (c : Thread nD τ)) (I := dst.view.set) (g := g) (write_eq_on dst.view f g _ hg)]
  iapply (Transfers.wp_dmaLocal EC 𝒱₀ (c : Thread nD τ) none (src := src) (dst := dst) (fs := fs) (fd := f) (Sd := dst.view.set) () dst.view.dmaCredit rfl
    hp subset_rfl) $$ [Hs Hd Hv]
  · isplitl [Hs]; · iexact Hs
    isplitl [Hd]; · iexact Hd
    iexact Hv
  iintro Hf
  iapply Hk
  iexact Hf

abbrev smM : DmaSem sig := (cc0_scratch10 : DmaSems sig S_).sem
abbrev smG : DmaSem sig := (cc0_scratch11 : DmaSems sig S_).sem

/-- The four copies in flight. -/
def F0 (c : Dev nD) : sProp 𝕄 := Transfers.Flight EC (c : Thread nD τ) (.dma psm0) () (ch pM 0).view.dmaCredit iprop(vpts (ch pM 0) c (pV a0 c) ∗ vpts (p0src c) c (a0 c))
def F1 (c : Dev nD) : sProp 𝕄 := Transfers.Flight EC (c : Thread nD τ) (.dma psm1) () pRest.view.dmaCredit iprop(vpts pRest c (pV a0 c) ∗ vpts (p1src c) c (a0 c))
def FM (c : Dev nD) : sProp 𝕄 := Transfers.Flight EC (c : Thread nD τ) (.dma smM) () myM.view.dmaCredit iprop(vpts myM c (myV a0 c) ∗ vpts (mysrc c) c (a0 c))
def FG (c : Dev nD) : sProp 𝕄 := Transfers.Flight EC (c : Thread nD τ) (.dma smG) () gbM.view.dmaCredit iprop(vpts gbM c (a1 c) ∗ vpts gM c (a1 c))

theorem split8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## A whole buffer of 512 rows is its eight chunks -/

theorem set_ch {e : EltTy} (b : Memref sig .tc .vmem S512x1024 e) (i : Fin 8) : (ch b i).view.set = (cr i).set.map b.view.emb :=
  View.set_slice b.view (cr i)

theorem map_chunks {e : EltTy} (b : Memref sig .tc .vmem S512x1024 e) (S : Finset (Fin 8)) :
    S.biUnion (fun i => (cr i).set.map b.view.emb) = (S.biUnion fun i => (cr i).set).map b.view.emb := by
  ext j
  simp only [Finset.mem_biUnion, Finset.mem_map]
  exact ⟨fun ⟨i, hi, x, hx, hj⟩ => ⟨x, ⟨i, hi, hx⟩, hj⟩, fun ⟨x, ⟨i, hi, hx⟩, hj⟩ => ⟨i, hi, x, hx, hj⟩⟩

theorem set_chunks {e : EltTy} (b : Memref sig .tc .vmem S512x1024 e) :
    (Finset.univ : Finset (Fin 8)).biUnion (fun i => (cr i).set.map b.view.emb) = b.view.set := by
  rw [map_chunks, cover_cr]; rfl

theorem chunks {e : EltTy} (b : Memref sig .tc .vmem S512x1024 e) (c : Dev nD) (f : Buf (Elt F) (b.view.loc (c : Thread nD τ))) :
    (vpts b c f : sProp 𝕄) = bigSep Finset.univ fun i => cpts b c i f := by
  unfold vpts
  rw [← set_chunks b]
  refine (pointsTo_biUnion (ℓ := b.view.loc (c : Thread nD τ)) _ _ fun i _ j _ h => (Finset.disjoint_map _).mpr (disj_cr i j h)).trans ?_
  exact bigSep_congr fun i _ => by unfold cpts; rw [set_ch]

theorem any_chunks {e : EltTy} (b : Memref sig .tc .vmem S512x1024 e) (c : Dev nD) : anyV b c ⊢ bigSep Finset.univ fun i => (anyC b c i : sProp 𝕄) := by
  unfold anyV
  iintro ⟨%f, H⟩
  ihave H := (Entails.of_eq (chunks b c f)) $$ H
  have hm : bigSep Finset.univ (fun i => cpts b c i f) ⊢ (bigSep Finset.univ fun i => anyC b c i : sProp 𝕄) :=
    bigSep_mono fun i _ => exists_intro (Φ := fun f => cpts b c i f) f
  iapply hm; iexact H

/-- The first chunk and the seven others. -/
theorem rest_chunks (c : Dev nD) (f : Buf (Elt F) (pM.view.loc (c : Thread nD τ))) :
    (vpts pRest c f : sProp 𝕄) = iprop(cpts pM c 1 f ∗ cpts pM c 2 f ∗ cpts pM c 3 f ∗ cpts pM c 4 f ∗ cpts pM c 5 f ∗ cpts pM c 6 f ∗ cpts pM c 7 f) := by
  have e : pRest.view.set = (Finset.univ.filter (fun i : Fin 8 => 1 ≤ i.val)).biUnion fun i => (cr i).set.map pM.view.emb := by
    rw [map_chunks, ← rest_set]; exact View.set_slice pM.view restR
  unfold vpts
  rw [e]
  refine (pointsTo_biUnion (ℓ := pM.view.loc (c : Thread nD τ)) _ _ fun i _ j _ h => (Finset.disjoint_map _).mpr (disj_cr i j h)).trans ?_
  refine (bigSep_congr (Ψ := fun i => cpts pM c i f) fun i _ => by unfold cpts; rw [set_ch]).trans ?_
  rw [show (Finset.univ.filter (fun i : Fin 8 => 1 ≤ i.val)) = ([1, 2, 3, 4, 5, 6, 7] : List (Fin 8)).toFinset from by decide]
  exact bigSep_eq_bigSepL _ (by decide) _

theorem vpts_ch0 (c : Dev nD) (f : Buf (Elt F) ((c : Thread nD τ).loc cc0_scratch0)) : (vpts (ch pM 0) c f : sProp 𝕄) = cpts pM c 0 f := rfl

theorem p_pieces (c : Dev nD) (f : Buf (Elt F) (pM.view.loc (c : Thread nD τ))) :
    (vpts pM c f : sProp 𝕄) = iprop(vpts (ch pM 0) c f ∗ vpts pRest c f) := by
  rw [chunks, split8, rest_chunks]; rfl

theorem whole_vpts (r : Ref sig .tc) (c : Dev nD) (f : Buf (Elt F) ((c : Thread nD τ).loc r)) :
    ((c : Thread nD τ).loc r ↦{fullShare} f : sProp 𝕄) = vpts (Memref.whole r) c f := by
  unfold vpts
  exact congrArg (fun S => ((c : Thread nD τ).loc r ↦[S]{fullShare} f : sProp 𝕄)) (View.set_whole r).symm

/-! ## The argument in its four pieces, the result in its sixteen -/

theorem set_p0 (c : Dev nD) : (p0src c).view.set = (Rect.unit (s := S1x2048x1024) (k0_off1 c) S1x64x1024.size (k0_off1_inb c)).set :=
  (View.set_reshape _ _).trans (View.set_slice_whole _ _)
theorem set_p1 (c : Dev nD) : (p1src c).view.set = (Rect.unit (s := S1x2048x1024) (k0_off2 c) S1x448x1024.size (k0_off2_inb c)).set :=
  (View.set_reshape _ _).trans (View.set_slice_whole _ _)
theorem set_my (c : Dev nD) : (mysrc c).view.set = (Rect.unit (s := S1x2048x1024) (k0_off3 c) S1x512x1024.size (k0_off3_inb c)).set :=
  (View.set_reshape _ _).trans (View.set_slice_whole _ _)

theorem rows_p0 (c : Dev nD) (j : S1x2048x1024.Idx) (h : j ∈ (p0src c).view.set) : pBase c ≤ (j 1).val ∧ (j 1).val < pBase c + 64 := by
  rw [set_p0, Rect.mem_set_unit] at h
  have h1 := h 1
  rw [k0_off1_eq] at h1
  exact h1
theorem rows_p1 (c : Dev nD) (j : S1x2048x1024.Idx) (h : j ∈ (p1src c).view.set) : pBase c + 64 ≤ (j 1).val ∧ (j 1).val < pBase c + 512 := by
  rw [set_p1, Rect.mem_set_unit] at h
  have h1 : (512 * ((c.val / 4) % 2) + 1088) - 1024 * (c.val / 8) ≤ (j 1).val ∧ (j 1).val < (512 * ((c.val / 4) % 2) + 1088) - 1024 * (c.val / 8) + 448 := by
    have h1 := h 1
    rw [k0_off2_eq] at h1
    exact h1
  have hc := dev_bounds c
  unfold pBase; omega
theorem rows_my (c : Dev nD) (j : S1x2048x1024.Idx) (h : j ∈ (mysrc c).view.set) : myBase c ≤ (j 1).val ∧ (j 1).val < myBase c + 512 := by
  rw [set_my, Rect.mem_set_unit] at h
  have h1 := h 1
  rw [k0_off3_eq] at h1
  exact h1

/-- The rows no copy reads. -/
def idle (c : Dev nD) : Finset S1x2048x1024.Idx := ((Finset.univ \ (p0src c).view.set) \ (p1src c).view.set) \ (mysrc c).view.set

theorem arg_pieces (c : Dev nD) (f : Buf (Elt F) ((c : Thread nD τ).loc main_arg0)) :
    ((c : Thread nD τ).loc main_arg0 ↦{fullShare} f : sProp 𝕄)
      ⊣⊢ iprop(vpts (p0src c) c f ∗ vpts (p1src c) c f ∗ vpts (mysrc c) c f ∗ (c : Thread nD τ).loc main_arg0 ↦[idle c]{fullShare} f) := by
  have hc := dev_bounds c
  have h₁ : (p1src c).view.set ⊆ Finset.univ \ (p0src c).view.set := fun j hj => Finset.mem_sdiff.mpr ⟨Finset.mem_univ _, fun h => by
    have := rows_p0 c j h; have := rows_p1 c j hj; omega⟩
  have h₂ : (mysrc c).view.set ⊆ (Finset.univ \ (p0src c).view.set) \ (p1src c).view.set := fun j hj =>
    Finset.mem_sdiff.mpr ⟨Finset.mem_sdiff.mpr ⟨Finset.mem_univ _, fun h => by
      have := rows_p0 c j h; have := rows_my c j hj; unfold pBase myBase at *; omega⟩, fun h => by
      have := rows_p1 c j h; have := rows_my c j hj; unfold pBase myBase at *; omega⟩
  refine (pointsTo_split_subset (Finset.subset_univ (p0src c).view.set)).trans ?_
  refine (sep_congr_right (pointsTo_split_subset h₁)).trans ?_
  exact sep_congr_right (sep_congr_right (pointsTo_split_subset h₂))

/-- The sixteen pieces of the result. -/
abbrev piece (c : Dev nD) (p : Fin 8 ⊕ Fin 8) : Finset S1024x1024.Idx :=
  match p with
  | .inl i => (out1 c i).view.set
  | .inr i => (out2 c i).view.set

theorem mem_piece (c : Dev nD) (p : Fin 8 ⊕ Fin 8) (j : S1024x1024.Idx) : j ∈ piece c p ↔
    (match p with
      | .inl i => 512 * ((c.val / 4) % 2) + 64 * i.val ≤ (j 0).val ∧ (j 0).val < 512 * ((c.val / 4) % 2) + 64 * i.val + 64
      | .inr i => (64 * i.val + 512) - 512 * ((c.val / 4) % 2) ≤ (j 0).val ∧ (j 0).val < (64 * i.val + 512) - 512 * ((c.val / 4) % 2) + 64) := by
  have hj : (j 1).val < 1024 := (j 1).isLt
  rcases p with i | i
  · have e : (out1 c i).view.set = (Rect.unit (s := S1024x1024) (k0_off4 c (BitVec.ofNat 32 (64 * i.val))) S64x1024.size (k0_off4_inb c i)).set := View.set_slice_whole main_v1 _
    show j ∈ (out1 c i).view.set ↔ _
    rw [e, Rect.mem_set_unit]
    constructor
    · intro h
      have h0 := h 0
      rw [k0_off4_eq] at h0
      exact h0
    · intro h a
      rw [k0_off4_eq]
      match a with
      | ⟨0, _⟩ => exact h
      | ⟨1, _⟩ => exact ⟨Nat.zero_le _, by show (j 1).val < 0 + 1024; omega⟩
  · have e : (out2 c i).view.set = (Rect.unit (s := S1024x1024) (k0_off5 c (BitVec.ofNat 32 (64 * i.val))) S64x1024.size (k0_off5_inb c i)).set := View.set_slice_whole main_v1 _
    show j ∈ (out2 c i).view.set ↔ _
    rw [e, Rect.mem_set_unit]
    constructor
    · intro h
      have h0 := h 0
      rw [k0_off5_eq] at h0
      exact h0
    · intro h a
      rw [k0_off5_eq]
      match a with
      | ⟨0, _⟩ => exact h
      | ⟨1, _⟩ => exact ⟨Nat.zero_le _, by show (j 1).val < 0 + 1024; omega⟩

theorem disj_piece (c : Dev nD) (p q : Fin 8 ⊕ Fin 8) (h : p ≠ q) : Disjoint (piece c p) (piece c q) := by
  rw [Finset.disjoint_left]
  intro j hp hq
  rw [mem_piece] at hp hq
  have hc := dev_bounds c
  rcases p with i | i <;> rcases q with k | k <;> dsimp only at hp hq
  · exact h (congrArg _ (Fin.ext (by omega)))
  · have := i.isLt; have := k.isLt; omega
  · have := i.isLt; have := k.isLt; omega
  · exact h (congrArg _ (Fin.ext (by omega)))

theorem cover_piece (c : Dev nD) : (Finset.univ : Finset (Fin 8 ⊕ Fin 8)).biUnion (piece c) = Finset.univ := by
  refine Finset.eq_univ_iff_forall.mpr fun j => Finset.mem_biUnion.mpr ?_
  have h0 : (j 0).val < 1024 := (j 0).isLt
  have hc := dev_bounds c
  by_cases h : (j 0).val / 512 = (c.val / 4) % 2
  · exact ⟨.inl ⟨(j 0).val % 512 / 64, by omega⟩, Finset.mem_univ _, (mem_piece _ _ _).mpr (by dsimp only; omega)⟩
  · exact ⟨.inr ⟨(j 0).val % 512 / 64, by omega⟩, Finset.mem_univ _, (mem_piece _ _ _).mpr (by dsimp only; omega)⟩

theorem out_pieces (c : Dev nD) (f : Buf (Elt F) ((c : Thread nD τ).loc main_v1)) :
    ((c : Thread nD τ).loc main_v1 ↦{fullShare} f : sProp 𝕄)
      = iprop((bigSep Finset.univ fun i => opts (out1 c i) c f) ∗ bigSep Finset.univ fun i => opts (out2 c i) c f) := by
  refine (Ring.pointsTo_blocks (ℓ := (c : Thread nD τ).loc main_v1) (piece c) (disj_piece c) (cover_piece c) f).trans ?_
  exact bigSep_univ_sum _

theorem out_any (c : Dev nD) (f : Buf (Elt F) ((c : Thread nD τ).loc main_v1)) :
    ((c : Thread nD τ).loc main_v1 ↦{fullShare} f : sProp 𝕄)
      ⊢ iprop((bigSep Finset.univ fun i => anyO (out1 c i) c) ∗ bigSep Finset.univ fun i => anyO (out2 c i) c) := by
  rw [out_pieces]
  exact BI.sep_mono (bigSep_mono fun i _ => exists_intro (Φ := fun f => opts (out1 c i) c f) f)
    (bigSep_mono fun i _ => exists_intro (Φ := fun f => opts (out2 c i) c f) f)

end Cert.Swap

end
-- ==== Proof.Parts.lean ====
/-
# The parts of the program after the copies in

The program is printed in parts of a few operations. Each part takes the chunks it touches from one state to another.
-/
module

public import proofs.«01_k».proof.Proof.Pieces

@[expose] public section

set_option maxRecDepth 8000

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-! ## The stored values, under one name each -/

section Names
variable (g : FVec F S1x1024 .f32) (a : Vec F S64x1024 .f32) (b : Vec F S64x1024 .bf16) (v : FVec F S64x1024 .f32)

theorem pay2_eq : k0_pay2 a = k0_pay1 a := rfl
theorem pay3_eq : k0_pay3 a = k0_pay1 a := rfl
theorem pay4_eq : k0_pay4 a = k0_pay1 a := rfl
theorem pay5_eq : k0_pay5 a = k0_pay1 a := rfl
theorem pay6_eq : k0_pay6 a = k0_pay1 a := rfl
theorem pay7_eq : k0_pay7 a = k0_pay1 a := rfl
theorem pay8_eq : k0_pay8 a = k0_pay1 a := rfl
theorem pay14_eq : k0_pay14 g (k0_pay10 a b) (k0_pay11 a b) k0_pay12 = k0_pay17 g a b := rfl
theorem pay15_eq : k0_pay15 g (k0_pay10 a b) (k0_pay11 a b) k0_pay12 = k0_pay18 (k0_pay16 g a b) := rfl
theorem pay21_eq : k0_pay21 g (k0_pay19 a b) = k0_pay17 g a b := rfl
theorem pay22_eq : k0_pay22 g (k0_pay19 a b) = k0_pay18 (k0_pay16 g a b) := rfl
theorem pay35_eq : k0_pay35 g (k0_pay32 a b) (k0_pay33 a b) = k0_pay17 g a b := rfl
theorem pay36_eq : k0_pay36 g (k0_pay32 a b) (k0_pay33 a b) = k0_pay18 (k0_pay16 g a b) := rfl
theorem pay25_eq : k0_pay25 g a b = k0_pay17 g a b := rfl
theorem pay29_eq : k0_pay29 g a b = k0_pay17 g a b := rfl
theorem pay39_eq : k0_pay39 g a b = k0_pay17 g a b := rfl
theorem pay43_eq : k0_pay43 g a b = k0_pay17 g a b := rfl
theorem pay28_eq : k0_pay28 g a b = k0_pay16 g a b := rfl
theorem pay42_eq : k0_pay42 g a b = k0_pay16 g a b := rfl
theorem pay26_eq : k0_pay26 g a b = k0_pay18 (k0_pay16 g a b) := rfl
theorem pay40_eq : k0_pay40 g a b = k0_pay18 (k0_pay16 g a b) := rfl
theorem pay30_eq : k0_pay30 v = k0_pay18 v := rfl
theorem pay44_eq : k0_pay44 v = k0_pay18 v := rfl
theorem pay27_eq : k0_pay27 b = k0_pay23 b := rfl
theorem pay31_eq : k0_pay31 b = k0_pay23 b := rfl
theorem pay37_eq : k0_pay37 b = k0_pay23 b := rfl
theorem pay41_eq : k0_pay41 b = k0_pay23 b := rfl
theorem pay45_eq : k0_pay45 b = k0_pay23 b := rfl
theorem pay46_eq : k0_pay46 b = k0_pay23 b := rfl
theorem pay47_eq : k0_pay47 b = k0_pay23 b := rfl

end Names

variable (K : Dev nD × CK → ℕ) (c : Dev nD)

/-! ## The copies in and the handshake -/

theorem anyW_anyV (r : Ref sig .tc) (c : Dev nD) : (anyW r c : sProp 𝕄) ⊢ anyV (Memref.whole r) c := by
  unfold anyW anyV
  iintro ⟨%f, H⟩
  iexists f
  iapply (Entails.of_eq (whole_vpts r c f)); iexact H

/-- The load of the scale. -/
theorem ldG (c : Dev nD) (g : S1024.Idx → Elt F .f32) {hl : gbM.view.LoadsAt (Rect.unit (s := S1024) ![0] S1024.size inb_S1024_S1024_0).toLoadRect}
    {α : Type} {Q : α → sProp 𝕄} {k : (S1024.Idx → Elt F .f32) → Prog (TpuEff nD τ sig (Elt F) Λ₀ .tc) α} :
    vpts gbM c g ⊢ iprop((vpts gbM c g -∗ WP c (k g) Q) -∗ WP c (.op (.load gbM (Rect.unit (s := S1024) ![0] S1024.size inb_S1024_S1024_0).toLoadRect hl) k) Q) := by
  have hz : (![0] : Fin 1 → ℕ) = fun _ => 0 := by funext a; match a with | ⟨0, _⟩ => rfl
  have hr : gbM.view.readAt (Elt F) (Rect.unit (s := S1024) ![0] S1024.size inb_S1024_S1024_0).toLoadRect g = g :=
    Memref.readAt_unit_zero (Elt F) cc0_scratch4 hz inb_S1024_S1024_0 g
  have hk : k (gbM.view.readAt (Elt F) (Rect.unit (s := S1024) ![0] S1024.size inb_S1024_S1024_0).toLoadRect g) = k g := congrArg k hr
  rw [← hk]
  exact wp_load 𝒱₀ (c : Thread nD τ) none Set.univ (m := gbM) (S := gbM.view.set) (View.setOn_subset_set _ _)

/-- What a device holds of a send before the neighbour has handed over its buffer. -/
def A00 (c : Dev nD) (i : Fin 8) : sProp 𝕄 :=
  iprop(anyC xsM c i ∗ dutyTok ER (xsCell c i) 0 false ∗ dutyTok ER (xrCell (xp c) i) 0 false ∗ atPos ER (xsCell c i) 0 ∅ 0)
def Y00 (c : Dev nD) (i : Fin 8) : sProp 𝕄 :=
  iprop(anyC ysM c i ∗ dutyTok ER (ysCell c i) 0 false ∗ dutyTok ER (yrCell (yp c) i) 0 false ∗ atPos ER (ysCell c i) 0 ∅ 0)
/-- What a device holds of a sum before its own half has arrived. -/
def B00 (c : Dev nD) (i : Fin 8) : sProp 𝕄 :=
  iprop((cred (tallyAt (xrCell c i) () N) ∗ atPos ER (xrCell c i) 0 ∅ 0) ∗ anyC oM c i ∗ semVal (dCell c (sm cc0_scratch12 i)) 0 ∗ anyO (out1 c i) c)

theorem A00_one (c : Dev nD) (i : Fin 8) : iprop(A00 c i ∗ anyC xrM (xp c) i) ⊢ (A0 c i : sProp 𝕄) := by
  unfold A00 A0
  iintro ⟨⟨Hs, H1, H2, Ha⟩, Hr⟩
  isplitl [Hs]; · iexact Hs
  isplitl [H1]; · iexact H1
  isplitl [H2]; · iexact H2
  isplitl [Hr] <;> iassumption

theorem A00_A0 (c : Dev nD) : iprop((bigSep Finset.univ fun i => A00 c i) ∗ anyV xrM (xp c)) ⊢ (bigSep Finset.univ fun i => A0 c i : sProp 𝕄) := by
  refine (sep_mono_right (any_chunks xrM (xp c))).trans ?_
  rw [← bigSep_sep']
  exact bigSep_mono fun i _ => A00_one c i
theorem Y00_one (c : Dev nD) (i : Fin 8) : iprop(Y00 c i ∗ anyC yrM (yp c) i) ⊢ (Y0 c i : sProp 𝕄) := by
  unfold Y00 Y0
  iintro ⟨⟨Hs, H1, H2, Ha⟩, Hr⟩
  isplitl [Hs]; · iexact Hs
  isplitl [H1]; · iexact H1
  isplitl [H2]; · iexact H2
  isplitl [Hr] <;> iassumption

theorem Y00_Y0 (c : Dev nD) : iprop((bigSep Finset.univ fun i => Y00 c i) ∗ anyV yrM (yp c)) ⊢ (bigSep Finset.univ fun i => Y0 c i : sProp 𝕄) := by
  refine (sep_mono_right (any_chunks yrM (yp c))).trans ?_
  rw [← bigSep_sep']
  exact bigSep_mono fun i _ => Y00_one c i
theorem B00_B0 (c : Dev nD) : iprop(vpts myM c (myV a0 c) ∗ bigSep Finset.univ fun i => B00 c i) ⊢ (bigSep Finset.univ fun i => B0 a0 c i : sProp 𝕄) := by
  rw [chunks, ← bigSep_sep']
  exact bigSep_mono fun i _ => by unfold B00 B0; exact Entails.refl _

/-- The handshake: the device hands its landing buffers to its neighbours and gets theirs. -/
theorem stepBar (n₁ n₂ : Dev nD) (h₁ : n₁ = xp c) (h₂ : n₂ = yp c) {α : Type} {Q : α → sProp 𝕄} {k : PUnit → Prog (TpuEff nD τ sig (Elt F) Λ₀ .tc) α} :
    iprop(records a0 a1 K ∗ ow c (O₀ c) ∗ (dutyTok ER (barCell (xp c)) 0 false ∗ anyW cc0_scratch6 c) ∗ (dutyTok ER (barCell (yp c)) 0 true ∗ anyW cc0_scratch8 c)
        ∗ (cred (tallyAt (barCell c) () 2) ∗ atPos ER (barCell c) 0 ∅ 0) ∗ (bigSep Finset.univ fun i => A00 c i) ∗ bigSep Finset.univ fun i => Y00 c i)
      ⊢ iprop((iprop((bigSep Finset.univ fun i => A0 c i) ∗ (bigSep Finset.univ fun i => Y0 c i) ∗ semVal (barCell c) 0 ∗ ow c (owed c 0 0)) -∗ WP c (k ⟨⟩) Q)
        -∗ WP c (.op (.semSignal ((n₁, .tc) : Thread nD τ) barS (1#32).toInt) fun _ => .op (.semSignal ((n₂, .tc) : Thread nD τ) barS (1#32).toInt) fun _ =>
          .op (.semWait barS (2#32).toInt) k) Q) := by
  subst h₁ h₂
  have hm : records a0 a1 K ⊢ MayWait (c : Thread nD τ) (.reg barS) () (owed c 0 0) := (lev_at a0 a1 K).trans (mayWait_bar c)
  unfold ow
  iintro ⟨#HR, ⟨%W, HO⟩, ⟨Ht₁, Hx⟩, ⟨Ht₂, Hy⟩, ⟨Hc, Hat⟩, HA, HY⟩ Hk
  iapply (Rounds.wp_signal 𝒱₀ ER (Rd a0 a1) (c : Thread nD τ) none (dst := (xp c : Thread nD τ)) (κ := K (xp c, none)) (d := false)
      (by rw [duties_bar]; exact Finset.mem_univ _) ((amount_bar a0 a1 (xp c) false).trans (by decide)) () (owed c 0 0 + tallyAt (barCell (yp c)) () 1) rfl)
    $$ [HO Ht₁ Hx]
  · isplitr; · iapply (inv_at a0 a1 K (xp c, none)); iexact HR
    isplitl [HO]; · iexact HO
    isplitl [Ht₁]; · iexact Ht₁
    isplitl [Hx]
    · rw [payload_bar]; unfold barPay; rw [if_neg (by decide), xp_xp]; iexact Hx
    iapply (reached_at a0 a1 K (xp c, none)); iexact HR
  iintro HO
  iapply (Rounds.wp_signal 𝒱₀ ER (Rd a0 a1) (c : Thread nD τ) none (dst := (yp c : Thread nD τ)) (κ := K (yp c, none)) (d := true)
      (by rw [duties_bar]; exact Finset.mem_univ _) ((amount_bar a0 a1 (yp c) true).trans (by decide)) () (owed c 0 0) rfl)
    $$ [HO Ht₂ Hy]
  · isplitr; · iapply (inv_at a0 a1 K (yp c, none)); iexact HR
    isplitl [HO]; · iexact HO
    isplitl [Ht₂]; · iexact Ht₂
    isplitl [Hy]
    · rw [payload_bar]; unfold barPay; rw [if_pos rfl, yp_yp]; iexact Hy
    iapply (reached_at a0 a1 K (yp c, none)); iexact HR
  iintro HO
  iapply (Rounds.wp_wait_rest_token 𝒱₀ ER (Rd a0 a1) (c : Thread nD τ) none (κ := K (c, none))
      (wpE_semWait_eq 𝒱₀ (c : Thread nD τ) none Set.univ) (Set.mem_univ _) () (O := owed c 0 0) (W := W) (R := 0) (m := 0) (T := ∅)
      (by rw [expect_bar]; decide)) $$ [Hc HO Hat]
  · isplitr; · iapply (inv_at a0 a1 K (c, none)); iexact HR
    isplitl [Hc]; · iexact Hc
    isplitl [HO]; · iexact HO
    isplitr; · iapply hm; iexact HR
    iexact Hat
  iintro ⟨HO, Hat, -, Hpay⟩
  ihave Hp := (Entails.of_eq (rest_bar a0 a1 c)) $$ Hpay
  icases Hp with ⟨Hx, Hy⟩
  imod (Rounds.cell_close ER (Rd a0 a1) (Set.mem_univ (K (c, none))) (fun h => h) (R := 0 + 1) (duties_later a0 a1 (barCell c))) $$ [Hat] with Hz
  · isplitr; · iapply (inv_at a0 a1 K (c, none)); iexact HR
    iexact Hat
  iapply Hk
  isplitl [HA Hx]
  · iapply (A00_A0 c)
    isplitl [HA]; · iexact HA
    iapply (anyW_anyV cc0_scratch6 (xp c)); iexact Hx
  isplitl [HY Hy]
  · iapply (Y00_Y0 c)
    isplitl [HY]; · iexact HY
    iapply (anyW_anyV cc0_scratch8 (yp c)); iexact Hy
  isplitl [Hz]; · iexact Hz
  iexists (insert (SemLoc.reg barS, ()) W)
  iexact HO

theorem part1 {Q : (Σ' (d0 : Dev nD) (v2 : BitVec 32) (v5 : BitVec 32) (v8 : BitVec 32) (v9 : BitVec 32), BitVec 32) → sProp 𝕄} :
    iprop((vpts (p0src c) c (a0 c) ∗ anyV (ch pM 0) c ∗ semVal (dCell c psm0) 0) ∗ (vpts (p1src c) c (a0 c) ∗ anyV pRest c ∗ semVal (dCell c psm1) 0))
      ⊢ iprop((iprop(F0 a0 c ∗ F1 a0 c) -∗ ∀ v2 v5 v8 v9 v10, Q ⟨c, v2, v5, v8, v9, v10⟩)
        -∗ WP c (k0_part1 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17) Q) := by
  rw [k0_part1_eq_skeleton]; unfold k0_part1_skel
  simp only [Prog.lift, Prog.bind_op, Prog.bind_ret, Prog.pure_eq_ret, wp_deviceId]
  iintro ⟨H0, H1⟩ Hk
  iapply (copyIn c (p0src c) (ch pM 0) psm0 (a0 c) (pV a0 c) (p0_read a0 c) (View.dmaCredit_pos _ (by decide))) $$ H0
  iintro H0
  iapply (copyIn c (p1src c) pRest psm1 (a0 c) (pV a0 c) (p1_read a0 c) (View.dmaCredit_pos _ (by decide))) $$ H1
  iintro H1
  unfold WP; rw [wp_ret]; imodintro
  unfold F0 F1
  ispecialize Hk $$ [H0 H1]
  · isplitl [H0] <;> iassumption
  iapply Hk

theorem part2 {v2 v5 v8 v9 v10 : BitVec 32} {Q : BitVec 32 → sProp 𝕄} :
    iprop(records a0 a1 K ∗ F0 a0 c ∗ (vpts (mysrc c) c (a0 c) ∗ anyV myM c ∗ semVal (dCell c smM) 0) ∗ (vpts gM c (a1 c) ∗ anyV gbM c ∗ semVal (dCell c smG) 0)
        ∗ ow c (O₀ c) ∗ (dutyTok ER (barCell (xp c)) 0 false ∗ anyW cc0_scratch6 c) ∗ (dutyTok ER (barCell (yp c)) 0 true ∗ anyW cc0_scratch8 c)
        ∗ (cred (tallyAt (barCell c) () 2) ∗ atPos ER (barCell c) 0 ∅ 0) ∗ (bigSep Finset.univ fun i => A00 c i) ∗ bigSep Finset.univ fun i => Y00 c i)
      ⊢ iprop((iprop((cpts pM c 0 (pV a0 c) ∗ vpts (p0src c) c (a0 c) ∗ semVal (dCell c psm0) 0) ∗ FM a0 c ∗ FG a1 c ∗ semVal (barCell c) 0
          ∗ (A1 a0 c 0 ∗ A0 c 1 ∗ A0 c 2 ∗ A0 c 3 ∗ A0 c 4 ∗ A0 c 5 ∗ A0 c 6 ∗ A0 c 7) ∗ (bigSep Finset.univ fun i => Y0 c i) ∗ ow c (owed c 0 0)) -∗ ∀ w, Q w)
        -∗ WP c (k0_part2 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v9 v10) Q) := by
  rw [k0_part2_eq_skeleton]; unfold k0_part2_skel
  simp only [semSignalWord, semWaitWord, Prog.lift, Prog.bind_op, Prog.bind_ret, Prog.pure_eq_ret]
  iintro ⟨#HR, H0, HM, HG, HO, Hx, Hy, Hb, HA, HY⟩ Hk
  iapply (copyIn c (mysrc c) myM smM (a0 c) (myV a0 c) ((my_read a0 c).trans rfl) (View.dmaCredit_pos _ (by decide))) $$ HM
  iintro HM
  iapply (copyIn c gM gbM smG (a1 c) (a1 c) rfl (View.dmaCredit_pos _ (by decide))) $$ HG
  iintro HG
  iapply (stepBar a0 a1 K c _ _ (dev1_eq c) (dev2_eq c)) $$ [HO Hx Hy Hb HA HY]
  · isplitr; · iexact HR
    isplitl [HO]; · iexact HO
    isplitl [Hx]; · iexact Hx
    isplitl [Hy]; · iexact Hy
    isplitl [Hb]; · iexact Hb
    isplitl [HA] <;> iassumption
  iintro ⟨HA, HY, Hz, HO⟩
  unfold F0
  iapply (waitLocal a0 a1 K c (srcw := p0src c) (dstw := ch pM 0) psm0 kind_p0 (ch pM 0).view.dmaCredit rfl iprop(vpts (ch pM 0) c (pV a0 c) ∗ vpts (p0src c) c (a0 c)) 0 0) $$ [H0 HO]
  · isplitr; · iexact HR
    isplitl [H0] <;> iassumption
  iintro ⟨⟨Hp, Hs⟩, Hv, HO⟩
  ihave HA := (Entails.of_eq (split8 fun i => A0 c i)) $$ HA
  icases HA with ⟨HA0, HA⟩
  ihave Hp := (Entails.of_eq (vpts_ch0 c (pV a0 c))) $$ Hp
  iapply (stepA1 a0 c 0) $$ [Hp HA0]
  · isplitl [Hp] <;> iassumption
  iintro ⟨Hp, HA0⟩
  unfold WP; rw [wp_ret]; imodintro
  ispecialize Hk $$ [Hp Hs Hv HM HG Hz HA0 HA HY HO]
  · isplitl [Hp Hs Hv]
    · isplitl [Hp]; · iexact Hp
      isplitl [Hs] <;> iassumption
    isplitl [HM]; · unfold FM; iexact HM
    isplitl [HG]; · unfold FG; iexact HG
    isplitl [Hz]; · iexact Hz
    isplitl [HA0 HA]; · isplitl [HA0] <;> iassumption
    isplitl [HY] <;> iassumption
  iapply Hk

theorem part3 {v5 v8 v9 v57 : BitVec 32} {Q : PUnit → sProp 𝕄} :
    iprop(records a0 a1 K ∗ F1 a0 c ∗ A1 a0 c 0 ∗ A0 c 1 ∗ ow c (owed c 0 0))
      ⊢ iprop((iprop((vpts (p1src c) c (a0 c) ∗ semVal (dCell c psm1) 0) ∗ (cpts pM c 1 (pV a0 c) ∗ cpts pM c 2 (pV a0 c) ∗ cpts pM c 3 (pV a0 c) ∗ cpts pM c 4 (pV a0 c)
          ∗ cpts pM c 5 (pV a0 c) ∗ cpts pM c 6 (pV a0 c) ∗ cpts pM c 7 (pV a0 c)) ∗ A2 c 0 ∗ A2 c 1 ∗ ow c (owed c 2 0)) -∗ Q ⟨⟩)
        -∗ WP c (k0_part3 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9 v57) Q) := by
  rw [k0_part3_eq_skeleton]; unfold k0_part3_skel
  simp only [pay2_eq, Prog.lift, Prog.bind_op, Prog.bind_ret, Prog.pure_eq_ret]
  iintro ⟨#HR, H1, HA0, HA1, HO⟩ Hk
  iapply (stepA2 a0 a1 K c 0 _ (dev3_eq c) 0 1 0 rfl rfl) $$ [HA0 HO]
  · isplitr; · iexact HR
    isplitl [HA0] <;> iassumption
  iintro ⟨HA0, HO⟩
  unfold F1
  iapply (waitLocal a0 a1 K c (srcw := p1src c) (dstw := pRest) psm1 kind_p1 pRest.view.dmaCredit rfl iprop(vpts pRest c (pV a0 c) ∗ vpts (p1src c) c (a0 c)) 1 0) $$ [H1 HO]
  · isplitr; · iexact HR
    isplitl [H1] <;> iassumption
  iintro ⟨⟨Hp, Hs⟩, Hv, HO⟩
  ihave Hp := (Entails.of_eq (rest_chunks c (pV a0 c))) $$ Hp
  icases Hp with ⟨Hp, Hrest⟩
  iapply (stepA1 a0 c 1) $$ [Hp HA1]
  · isplitl [Hp] <;> iassumption
  iintro ⟨Hp, HA1⟩
  iapply (stepA2 a0 a1 K c 1 _ (dev4_eq c) 1 2 0 rfl rfl) $$ [HA1 HO]
  · isplitr; · iexact HR
    isplitl [HA1] <;> iassumption
  iintro ⟨HA1, HO⟩
  unfold WP; rw [wp_ret]; imodintro
  iapply Hk
  isplitl [Hs Hv]; · isplitl [Hs] <;> iassumption
  isplitl [Hp Hrest]; · isplitl [Hp] <;> iassumption
  isplitl [HA0]; · iexact HA0
  isplitl [HA1] <;> iassumption

theorem part7 {v5 v8 v9 v179 w : BitVec 32} {Q : (Σ' (v193 : FVec F S1x1024 .f32) (v207 : FVec F S64x1024 .f32) (v210 : FVec F S64x1 .f32), FVec F S64x1 .f32) → sProp 𝕄} :
    iprop(records a0 a1 K ∗ A1 a0 c 7 ∗ FM a0 c ∗ FG a1 c ∗ (bigSep Finset.univ fun i => B00 c i) ∗ ow c (owed c 7 0))
      ⊢ iprop((iprop(A2 c 7 ∗ (vpts (mysrc c) c (a0 c) ∗ semVal (dCell c smM) 0) ∗ ((vpts gbM c (a1 c) ∗ vpts gM c (a1 c)) ∗ semVal (dCell c smG) 0)
          ∗ (B1 a0 c 0 ∗ B0 a0 c 1 ∗ B0 a0 c 2 ∗ B0 a0 c 3 ∗ B0 a0 c 4 ∗ B0 a0 c 5 ∗ B0 a0 c 6 ∗ B0 a0 c 7) ∗ ow c (owed c 8 0)) -∗ Q ⟨k0_pay9 (a1 c), k0_pay10 (chunkOf (myV a0 c) 0) (chunkOf (xV a0 c) 0), k0_pay11 (chunkOf (myV a0 c) 0) (chunkOf (xV a0 c) 0), k0_pay12⟩)
        -∗ WP c (k0_part7 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9 v179 w) Q) := by
  rw [k0_part7_eq_skeleton]; unfold k0_part7_skel
  simp only [Prog.lift, Prog.bind_op, Prog.bind_ret, Prog.pure_eq_ret]
  iintro ⟨#HR, HA, HM, HG, HB, HO⟩ Hk
  iapply (stepA2 a0 a1 K c 7 _ (dev10_eq c) 7 8 0 rfl rfl) $$ [HA HO]
  · isplitr; · iexact HR
    isplitl [HA] <;> iassumption
  iintro ⟨HA, HO⟩
  unfold FM FG
  iapply (waitLocal a0 a1 K c (srcw := mysrc c) (dstw := myM) smM kind_m myM.view.dmaCredit rfl iprop(vpts myM c (myV a0 c) ∗ vpts (mysrc c) c (a0 c)) 8 0) $$ [HM HO]
  · isplitr; · iexact HR
    isplitl [HM] <;> iassumption
  iintro ⟨⟨Hm, Hs⟩, HvM, HO⟩
  iapply (waitLocal a0 a1 K c (srcw := gM) (dstw := gbM) smG kind_g gbM.view.dmaCredit rfl iprop(vpts gbM c (a1 c) ∗ vpts gM c (a1 c)) 8 0) $$ [HG HO]
  · isplitr; · iexact HR
    isplitl [HG] <;> iassumption
  iintro ⟨⟨Hb, Hg⟩, HvG, HO⟩
  iapply (ldG c (a1 c)) $$ Hb
  iintro Hb
  ihave HB := (B00_B0 a0 c) $$ [Hm HB]
  · isplitl [Hm]; · iexact Hm
    iexact HB
  ihave HB := (Entails.of_eq (split8 fun i => B0 a0 c i)) $$ HB
  icases HB with ⟨HB0, HB⟩
  iapply (stepB1 a0 a1 K c 0 0) $$ [HB0 HO]
  · isplitr; · iexact HR
    isplitl [HB0] <;> iassumption
  iintro ⟨HB0, HO⟩
  unfold WP; rw [wp_ret]; imodintro
  iapply Hk
  isplitl [HA]; · iexact HA
  isplitl [Hs HvM]; · isplitl [Hs] <;> iassumption
  isplitl [Hb Hg HvG]
  · isplitl [Hb Hg]; · isplitl [Hb] <;> iassumption
    iexact HvG
  isplitl [HB0 HB]; · isplitl [HB0] <;> iassumption
  iexact HO

/-! ## The parts after that -/

theorem part4 {v5 v8 v9 : BitVec 32} {Q : PUnit → sProp 𝕄} :
    iprop(records a0 a1 K ∗ cpts pM c 2 (pV a0 c) ∗ A0 c 2 ∗ cpts pM c 3 (pV a0 c) ∗ A0 c 3 ∗ ow c (owed c 2 0))
      ⊢ iprop((iprop(cpts pM c 2 (pV a0 c) ∗ A2 c 2 ∗ cpts pM c 3 (pV a0 c) ∗ A1 a0 c 3 ∗ ow c (owed c 3 0)) -∗ Q ⟨⟩)
        -∗ WP c (k0_part4 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9) Q) := by
  rw [k0_part4_eq_skeleton]; unfold k0_part4_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, P2, A2, P3, A3, HO⟩ Hk
  iapply (stepA1 a0 c 2) $$ [P2 A2]
  · isplitl [P2] <;> iassumption
  iintro ⟨P2, A2⟩
  iapply (stepA2 a0 a1 K c 2 _ (dev5_eq c) 2 3 0 rfl rfl) $$ [A2 HO]
  · isplitr; · iexact HR
    isplitl [A2] <;> iassumption
  iintro ⟨A2, HO⟩
  iapply (stepA1 a0 c 3) $$ [P3 A3]
  · isplitl [P3] <;> iassumption
  iintro ⟨P3, A3⟩
  unfold WP; rw [wp_ret]; imodintro
  iapply Hk
  isplitl [P2]; · iexact P2
  isplitl [A2]; · iexact A2
  isplitl [P3]; · iexact P3
  isplitl [A3]; · iexact A3
  iexact HO

theorem part5 {v5 v8 v9 : BitVec 32} {Q : PUnit → sProp 𝕄} :
    iprop(records a0 a1 K ∗ A1 a0 c 3 ∗ cpts pM c 4 (pV a0 c) ∗ A0 c 4 ∗ cpts pM c 5 (pV a0 c) ∗ A0 c 5 ∗ ow c (owed c 3 0))
      ⊢ iprop((iprop(A2 c 3 ∗ cpts pM c 4 (pV a0 c) ∗ A2 c 4 ∗ cpts pM c 5 (pV a0 c) ∗ A1 a0 c 5 ∗ ow c (owed c 5 0)) -∗ Q ⟨⟩)
        -∗ WP c (k0_part5 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9) Q) := by
  rw [k0_part5_eq_skeleton]; unfold k0_part5_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, A3, P4, A4, P5, A5, HO⟩ Hk
  iapply (stepA2 a0 a1 K c 3 _ (dev6_eq c) 3 4 0 rfl rfl) $$ [A3 HO]
  · isplitr; · iexact HR
    isplitl [A3] <;> iassumption
  iintro ⟨A3, HO⟩
  iapply (stepA1 a0 c 4) $$ [P4 A4]
  · isplitl [P4] <;> iassumption
  iintro ⟨P4, A4⟩
  iapply (stepA2 a0 a1 K c 4 _ (dev7_eq c) 4 5 0 rfl rfl) $$ [A4 HO]
  · isplitr; · iexact HR
    isplitl [A4] <;> iassumption
  iintro ⟨A4, HO⟩
  iapply (stepA1 a0 c 5) $$ [P5 A5]
  · isplitl [P5] <;> iassumption
  iintro ⟨P5, A5⟩
  unfold WP; rw [wp_ret]; imodintro
  iapply Hk
  isplitl [A3]; · iexact A3
  isplitl [P4]; · iexact P4
  isplitl [A4]; · iexact A4
  isplitl [P5]; · iexact P5
  isplitl [A5]; · iexact A5
  iexact HO

theorem part6 {v5 v8 v9 : BitVec 32} {Q : (Σ' (v179 : BitVec 32), BitVec 32) → sProp 𝕄} :
    iprop(records a0 a1 K ∗ A1 a0 c 5 ∗ cpts pM c 6 (pV a0 c) ∗ A0 c 6 ∗ cpts pM c 7 (pV a0 c) ∗ A0 c 7 ∗ ow c (owed c 5 0))
      ⊢ iprop((iprop(A2 c 5 ∗ cpts pM c 6 (pV a0 c) ∗ A2 c 6 ∗ cpts pM c 7 (pV a0 c) ∗ A1 a0 c 7 ∗ ow c (owed c 7 0)) -∗ ∀ w, Q w)
        -∗ WP c (k0_part6 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9) Q) := by
  rw [k0_part6_eq_skeleton]; unfold k0_part6_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, A5, P6, A6, P7, A7, HO⟩ Hk
  iapply (stepA2 a0 a1 K c 5 _ (dev8_eq c) 5 6 0 rfl rfl) $$ [A5 HO]
  · isplitr; · iexact HR
    isplitl [A5] <;> iassumption
  iintro ⟨A5, HO⟩
  iapply (stepA1 a0 c 6) $$ [P6 A6]
  · isplitl [P6] <;> iassumption
  iintro ⟨P6, A6⟩
  iapply (stepA2 a0 a1 K c 6 _ (dev9_eq c) 6 7 0 rfl rfl) $$ [A6 HO]
  · isplitr; · iexact HR
    isplitl [A6] <;> iassumption
  iintro ⟨A6, HO⟩
  iapply (stepA1 a0 c 7) $$ [P7 A7]
  · isplitl [P7] <;> iassumption
  iintro ⟨P7, A7⟩
  unfold WP; rw [wp_ret]; imodintro
  ispecialize Hk $$ [A5 P6 A6 P7 A7 HO]
  · isplitl [A5]; · iexact A5
    isplitl [P6]; · iexact P6
    isplitl [A6]; · iexact A6
    isplitl [P7]; · iexact P7
    isplitl [A7]; · iexact A7
    iexact HO
  iapply Hk

theorem part8 {v2 v5 v8 v10 : BitVec 32} {Q : PUnit → sProp 𝕄} :
    iprop(records a0 a1 K ∗ B1 a0 c 0 ∗ Y0 c 0 ∗ ow c (owed c 8 0))
      ⊢ iprop((iprop(B3 a0 a1 c 0 ∗ Y2 c 0 ∗ ow c (owed c 8 1)) -∗ Q ⟨⟩)
        -∗ WP c (k0_part8 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10 (k0_pay9 (a1 c)) (k0_pay10 (chunkOf (myV a0 c) 0) (chunkOf (xV a0 c) 0)) (k0_pay11 (chunkOf (myV a0 c) 0) (chunkOf (xV a0 c) 0)) (k0_pay12)) Q) := by
  rw [k0_part8_eq_skeleton]; unfold k0_part8_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B0, Y0, HO⟩ Hk
  iapply (stepB2 a0 a1 c 0) $$ B0
  iintro B0
  iapply (stepB3 a0 a1 c 0) $$ [B0 Y0]
  · isplitl [B0] <;> iassumption
  iintro ⟨B0, Y0⟩
  iapply (stepB4 a0 a1 K c 0 _ (dev11_eq c) 8 0 1 rfl rfl) $$ [Y0 HO]
  · isplitr; · iexact HR
    isplitl [Y0] <;> iassumption
  iintro ⟨Y0, HO⟩
  unfold WP; rw [wp_ret]; imodintro
  iapply Hk
  isplitl [B0]; · iexact B0
  isplitl [Y0]; · iexact Y0
  iexact HO

theorem part9 {v5 v8 v9 : BitVec 32} {Q : (FVec F S64x1024 .f32) → sProp 𝕄} :
    iprop(records a0 a1 K ∗ B0 a0 c 1 ∗ ow c (owed c 8 1))
      ⊢ iprop((iprop(B2 a0 a1 c 1 ∗ ow c (owed c 8 1)) -∗ Q (k0_pay16 (k0_pay9 (a1 c)) (chunkOf (myV a0 c) 1) (chunkOf (xV a0 c) 1)))
        -∗ WP c (k0_part9 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9 (k0_pay9 (a1 c))) Q) := by
  rw [k0_part9_eq_skeleton]; unfold k0_part9_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B1, HO⟩ Hk
  iapply (stepB1 a0 a1 K c 1 1) $$ [B1 HO]
  · isplitr; · iexact HR
    isplitl [B1] <;> iassumption
  iintro ⟨B1, HO⟩
  iapply (stepB2 a0 a1 c 1) $$ B1
  iintro B1
  unfold WP; rw [wp_ret]; imodintro
  iapply Hk
  isplitl [B1]; · iexact B1
  iexact HO

theorem part10 {v2 v5 v8 v9 v10 : BitVec 32} {Q : (FVec F S64x1024 .f32) → sProp 𝕄} :
    iprop(records a0 a1 K ∗ B2 a0 a1 c 1 ∗ Y0 c 1 ∗ B0 a0 c 2 ∗ ow c (owed c 8 1))
      ⊢ iprop((iprop(B3 a0 a1 c 1 ∗ Y2 c 1 ∗ B1 a0 c 2 ∗ ow c (owed c 8 2)) -∗ Q (k0_pay19 (chunkOf (myV a0 c) 2) (chunkOf (xV a0 c) 2)))
        -∗ WP c (k0_part10 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v9 v10 (k0_pay16 (k0_pay9 (a1 c)) (chunkOf (myV a0 c) 1) (chunkOf (xV a0 c) 1))) Q) := by
  rw [k0_part10_eq_skeleton]; unfold k0_part10_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B1, Y1, B2, HO⟩ Hk
  iapply (stepB3 a0 a1 c 1) $$ [B1 Y1]
  · isplitl [B1] <;> iassumption
  iintro ⟨B1, Y1⟩
  iapply (stepB4 a0 a1 K c 1 _ (dev12_eq c) 8 1 2 rfl rfl) $$ [Y1 HO]
  · isplitr; · iexact HR
    isplitl [Y1] <;> iassumption
  iintro ⟨Y1, HO⟩
  iapply (stepB1 a0 a1 K c 2 2) $$ [B2 HO]
  · isplitr; · iexact HR
    isplitl [B2] <;> iassumption
  iintro ⟨B2, HO⟩
  unfold WP; rw [wp_ret]; imodintro
  iapply Hk
  isplitl [B1]; · iexact B1
  isplitl [Y1]; · iexact Y1
  isplitl [B2]; · iexact B2
  iexact HO

theorem part11 {v2 v5 v8 v10 : BitVec 32} {Q : PUnit → sProp 𝕄} :
    iprop(records a0 a1 K ∗ B1 a0 c 2 ∗ Y0 c 2)
      ⊢ iprop((iprop(B3 a0 a1 c 2 ∗ Y1 a0 a1 c 2) -∗ Q ⟨⟩)
        -∗ WP c (k0_part11 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10 (k0_pay9 (a1 c)) (k0_pay19 (chunkOf (myV a0 c) 2) (chunkOf (xV a0 c) 2))) Q) := by
  rw [k0_part11_eq_skeleton]; unfold k0_part11_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B2, Y2⟩ Hk
  iapply (stepB2 a0 a1 c 2) $$ B2
  iintro B2
  iapply (stepB3 a0 a1 c 2) $$ [B2 Y2]
  · isplitl [B2] <;> iassumption
  iintro ⟨B2, Y2⟩
  unfold WP; rw [wp_ret]; imodintro
  iapply Hk
  isplitl [B2]; · iexact B2
  iexact Y2

theorem part12 {v2 v5 v8 v9 v10 : BitVec 32} {Q : (Σ' (v372 : BitVec 32), BitVec 32) → sProp 𝕄} :
    iprop(records a0 a1 K ∗ Y1 a0 a1 c 2 ∗ C0 c 0 ∗ ow c (owed c 8 2))
      ⊢ iprop((iprop(Y2 c 2 ∗ C3 a0 a1 c 0 ∗ ow c (owed c 8 3)) -∗ ∀ w, Q w)
        -∗ WP c (k0_part12 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v9 v10) Q) := by
  rw [k0_part12_eq_skeleton]; unfold k0_part12_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, Y2, C0, HO⟩ Hk
  iapply (stepB4 a0 a1 K c 2 _ (dev13_eq c) 8 2 3 rfl rfl) $$ [Y2 HO]
  · isplitr; · iexact HR
    isplitl [Y2] <;> iassumption
  iintro ⟨Y2, HO⟩
  iapply (stepC1 a0 a1 K c 0 3 (by decide)) $$ [C0 HO]
  · isplitr; · iexact HR
    isplitl [C0] <;> iassumption
  iintro ⟨C0, HO⟩
  iapply (stepC2 a0 a1 c 0) $$ C0
  iintro C0
  iapply (stepC3 a0 a1 c 0) $$ C0
  iintro C0
  unfold WP; rw [wp_ret]; imodintro
  ispecialize Hk $$ [Y2 C0 HO]
  · isplitl [Y2]; · iexact Y2
    isplitl [C0]; · iexact C0
    iexact HO
  iapply Hk

theorem part13 {v5 v8 v372 c1_i32_272 : BitVec 32} {Q : PUnit → sProp 𝕄} :
    iprop(records a0 a1 K ∗ B0 a0 c 3 ∗ Y0 c 3 ∗ ow c (owed c 8 3))
      ⊢ iprop((iprop(B3 a0 a1 c 3 ∗ Y1 a0 a1 c 3 ∗ ow c (owed c 8 3)) -∗ Q ⟨⟩)
        -∗ WP c (k0_part13 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 (k0_pay9 (a1 c)) v372 c1_i32_272) Q) := by
  rw [k0_part13_eq_skeleton]; unfold k0_part13_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B3, Y3, HO⟩ Hk
  iapply (stepB1 a0 a1 K c 3 3) $$ [B3 HO]
  · isplitr; · iexact HR
    isplitl [B3] <;> iassumption
  iintro ⟨B3, HO⟩
  iapply (stepB2 a0 a1 c 3) $$ B3
  iintro B3
  iapply (stepB3 a0 a1 c 3) $$ [B3 Y3]
  · isplitl [B3] <;> iassumption
  iintro ⟨B3, Y3⟩
  unfold WP; rw [wp_ret]; imodintro
  iapply Hk
  isplitl [B3]; · iexact B3
  isplitl [Y3]; · iexact Y3
  iexact HO

theorem part14 {v2 v5 v8 v10 : BitVec 32} {Q : PUnit → sProp 𝕄} :
    iprop(records a0 a1 K ∗ Y1 a0 a1 c 3 ∗ C0 c 1 ∗ ow c (owed c 8 3))
      ⊢ iprop((iprop(Y2 c 3 ∗ C2 a0 a1 c 1 ∗ ow c (owed c 8 4)) -∗ Q ⟨⟩)
        -∗ WP c (k0_part14 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10) Q) := by
  rw [k0_part14_eq_skeleton]; unfold k0_part14_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, Y3, C1, HO⟩ Hk
  iapply (stepB4 a0 a1 K c 3 _ (dev14_eq c) 8 3 4 rfl rfl) $$ [Y3 HO]
  · isplitr; · iexact HR
    isplitl [Y3] <;> iassumption
  iintro ⟨Y3, HO⟩
  iapply (stepC1 a0 a1 K c 1 4 (by decide)) $$ [C1 HO]
  · isplitr; · iexact HR
    isplitl [C1] <;> iassumption
  iintro ⟨C1, HO⟩
  iapply (stepC2 a0 a1 c 1) $$ C1
  iintro C1
  unfold WP; rw [wp_ret]; imodintro
  iapply Hk
  isplitl [Y3]; · iexact Y3
  isplitl [C1]; · iexact C1
  iexact HO

theorem part15 {v5 v8 v9 : BitVec 32} {Q : (Σ' (v467 : FVec F S64x1024 .f32), BitVec 32) → sProp 𝕄} :
    iprop(records a0 a1 K ∗ C2 a0 a1 c 1 ∗ B0 a0 c 4 ∗ ow c (owed c 8 4))
      ⊢ iprop((iprop(C3 a0 a1 c 1 ∗ B2 a0 a1 c 4 ∗ ow c (owed c 8 4)) -∗ ∀ w, Q ⟨k0_pay16 (k0_pay9 (a1 c)) (chunkOf (myV a0 c) 4) (chunkOf (xV a0 c) 4), w⟩)
        -∗ WP c (k0_part15 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9 (k0_pay9 (a1 c))) Q) := by
  rw [k0_part15_eq_skeleton]; unfold k0_part15_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, C1, B4, HO⟩ Hk
  iapply (stepC3 a0 a1 c 1) $$ C1
  iintro C1
  iapply (stepB1 a0 a1 K c 4 4) $$ [B4 HO]
  · isplitr; · iexact HR
    isplitl [B4] <;> iassumption
  iintro ⟨B4, HO⟩
  iapply (stepB2 a0 a1 c 4) $$ B4
  iintro B4
  unfold WP; rw [wp_ret]; imodintro
  ispecialize Hk $$ [C1 B4 HO]
  · isplitl [C1]; · iexact C1
    isplitl [B4]; · iexact B4
    iexact HO
  iapply Hk

theorem part16 {v2 v5 v8 v10 c512_i32_344 : BitVec 32} {Q : PUnit → sProp 𝕄} :
    iprop(records a0 a1 K ∗ B2 a0 a1 c 4 ∗ Y0 c 4 ∗ ow c (owed c 8 4))
      ⊢ iprop((iprop(B3 a0 a1 c 4 ∗ Y2 c 4 ∗ ow c (owed c 8 5)) -∗ Q ⟨⟩)
        -∗ WP c (k0_part16 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10 (k0_pay16 (k0_pay9 (a1 c)) (chunkOf (myV a0 c) 4) (chunkOf (xV a0 c) 4)) c512_i32_344) Q) := by
  rw [k0_part16_eq_skeleton]; unfold k0_part16_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B4, Y4, HO⟩ Hk
  iapply (stepB3 a0 a1 c 4) $$ [B4 Y4]
  · isplitl [B4] <;> iassumption
  iintro ⟨B4, Y4⟩
  iapply (stepB4 a0 a1 K c 4 _ (dev15_eq c) 8 4 5 rfl rfl) $$ [Y4 HO]
  · isplitr; · iexact HR
    isplitl [Y4] <;> iassumption
  iintro ⟨Y4, HO⟩
  unfold WP; rw [wp_ret]; imodintro
  iapply Hk
  isplitl [B4]; · iexact B4
  isplitl [Y4]; · iexact Y4
  iexact HO

theorem part17 {v5 v8 v9 : BitVec 32} {Q : (Σ' (v528 : FVec F S64x1024 .f32), FVec F S64 .f32) → sProp 𝕄} :
    iprop(records a0 a1 K ∗ C0 c 2 ∗ B0 a0 c 5 ∗ ow c (owed c 8 5))
      ⊢ iprop((iprop(C3 a0 a1 c 2 ∗ B1 a0 c 5 ∗ ow c (owed c 8 5)) -∗ Q ⟨k0_pay32 (chunkOf (myV a0 c) 5) (chunkOf (xV a0 c) 5), k0_pay33 (chunkOf (myV a0 c) 5) (chunkOf (xV a0 c) 5)⟩)
        -∗ WP c (k0_part17 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9) Q) := by
  rw [k0_part17_eq_skeleton]; unfold k0_part17_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, C2, B5, HO⟩ Hk
  iapply (stepC1 a0 a1 K c 2 5 (by decide)) $$ [C2 HO]
  · isplitr; · iexact HR
    isplitl [C2] <;> iassumption
  iintro ⟨C2, HO⟩
  iapply (stepC2 a0 a1 c 2) $$ C2
  iintro C2
  iapply (stepC3 a0 a1 c 2) $$ C2
  iintro C2
  iapply (stepB1 a0 a1 K c 5 5) $$ [B5 HO]
  · isplitr; · iexact HR
    isplitl [B5] <;> iassumption
  iintro ⟨B5, HO⟩
  unfold WP; rw [wp_ret]; imodintro
  iapply Hk
  isplitl [C2]; · iexact C2
  isplitl [B5]; · iexact B5
  iexact HO

theorem part18 {v2 v5 v8 v10 : BitVec 32} {Q : PUnit → sProp 𝕄} :
    iprop(records a0 a1 K ∗ B1 a0 c 5 ∗ Y0 c 5)
      ⊢ iprop((iprop(B3 a0 a1 c 5 ∗ Y1 a0 a1 c 5) -∗ Q ⟨⟩)
        -∗ WP c (k0_part18 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10 (k0_pay9 (a1 c)) (k0_pay32 (chunkOf (myV a0 c) 5) (chunkOf (xV a0 c) 5)) (k0_pay33 (chunkOf (myV a0 c) 5) (chunkOf (xV a0 c) 5))) Q) := by
  rw [k0_part18_eq_skeleton]; unfold k0_part18_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B5, Y5⟩ Hk
  iapply (stepB2 a0 a1 c 5) $$ B5
  iintro B5
  iapply (stepB3 a0 a1 c 5) $$ [B5 Y5]
  · isplitl [B5] <;> iassumption
  iintro ⟨B5, Y5⟩
  unfold WP; rw [wp_ret]; imodintro
  iapply Hk
  isplitl [B5]; · iexact B5
  iexact Y5

theorem part19 {v2 v5 v8 v9 v10 : BitVec 32} {Q : PUnit → sProp 𝕄} :
    iprop(records a0 a1 K ∗ Y1 a0 a1 c 5 ∗ C0 c 3 ∗ ow c (owed c 8 5))
      ⊢ iprop((iprop(Y2 c 5 ∗ C3 a0 a1 c 3 ∗ ow c (owed c 8 6)) -∗ Q ⟨⟩)
        -∗ WP c (k0_part19 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v9 v10) Q) := by
  rw [k0_part19_eq_skeleton]; unfold k0_part19_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, Y5, C3, HO⟩ Hk
  iapply (stepB4 a0 a1 K c 5 _ (dev16_eq c) 8 5 6 rfl rfl) $$ [Y5 HO]
  · isplitr; · iexact HR
    isplitl [Y5] <;> iassumption
  iintro ⟨Y5, HO⟩
  iapply (stepC1 a0 a1 K c 3 6 (by decide)) $$ [C3 HO]
  · isplitr; · iexact HR
    isplitl [C3] <;> iassumption
  iintro ⟨C3, HO⟩
  iapply (stepC2 a0 a1 c 3) $$ C3
  iintro C3
  iapply (stepC3 a0 a1 c 3) $$ C3
  iintro C3
  unfold WP; rw [wp_ret]; imodintro
  iapply Hk
  isplitl [Y5]; · iexact Y5
  isplitl [C3]; · iexact C3
  iexact HO

theorem part20 {v5 : BitVec 32} {Q : BitVec 32 → sProp 𝕄} :
    iprop(records a0 a1 K ∗ B0 a0 c 6 ∗ Y0 c 6 ∗ ow c (owed c 8 6))
      ⊢ iprop((iprop(B3 a0 a1 c 6 ∗ Y1 a0 a1 c 6 ∗ ow c (owed c 8 6)) -∗ ∀ w, Q w)
        -∗ WP c (k0_part20 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 (k0_pay9 (a1 c))) Q) := by
  rw [k0_part20_eq_skeleton]; unfold k0_part20_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B6, Y6, HO⟩ Hk
  iapply (stepB1 a0 a1 K c 6 6) $$ [B6 HO]
  · isplitr; · iexact HR
    isplitl [B6] <;> iassumption
  iintro ⟨B6, HO⟩
  iapply (stepB2 a0 a1 c 6) $$ B6
  iintro B6
  iapply (stepB3 a0 a1 c 6) $$ [B6 Y6]
  · isplitl [B6] <;> iassumption
  iintro ⟨B6, Y6⟩
  unfold WP; rw [wp_ret]; imodintro
  ispecialize Hk $$ [B6 Y6 HO]
  · isplitl [B6]; · iexact B6
    isplitl [Y6]; · iexact Y6
    iexact HO
  iapply Hk

theorem part21 {v2 v5 v8 v10 c8_i32_470 : BitVec 32} {Q : PUnit → sProp 𝕄} :
    iprop(records a0 a1 K ∗ Y1 a0 a1 c 6 ∗ C0 c 4 ∗ ow c (owed c 8 6))
      ⊢ iprop((iprop(Y2 c 6 ∗ C2 a0 a1 c 4 ∗ ow c (owed c 8 7)) -∗ Q ⟨⟩)
        -∗ WP c (k0_part21 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10 c8_i32_470) Q) := by
  rw [k0_part21_eq_skeleton]; unfold k0_part21_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, Y6, C4, HO⟩ Hk
  iapply (stepB4 a0 a1 K c 6 _ (dev17_eq c) 8 6 7 rfl rfl) $$ [Y6 HO]
  · isplitr; · iexact HR
    isplitl [Y6] <;> iassumption
  iintro ⟨Y6, HO⟩
  iapply (stepC1 a0 a1 K c 4 7 (by decide)) $$ [C4 HO]
  · isplitr; · iexact HR
    isplitl [C4] <;> iassumption
  iintro ⟨C4, HO⟩
  iapply (stepC2 a0 a1 c 4) $$ C4
  iintro C4
  unfold WP; rw [wp_ret]; imodintro
  iapply Hk
  isplitl [Y6]; · iexact Y6
  isplitl [C4]; · iexact C4
  iexact HO

theorem part22 {v5 v8 v9 : BitVec 32} {Q : (FVec F S64x1024 .f32) → sProp 𝕄} :
    iprop(records a0 a1 K ∗ C2 a0 a1 c 4 ∗ B0 a0 c 7 ∗ ow c (owed c 8 7))
      ⊢ iprop((iprop(C3 a0 a1 c 4 ∗ B2 a0 a1 c 7 ∗ ow c (owed c 8 7)) -∗ Q (k0_pay16 (k0_pay9 (a1 c)) (chunkOf (myV a0 c) 7) (chunkOf (xV a0 c) 7)))
        -∗ WP c (k0_part22 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v5 v8 v9 (k0_pay9 (a1 c))) Q) := by
  rw [k0_part22_eq_skeleton]; unfold k0_part22_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, C4, B7, HO⟩ Hk
  iapply (stepC3 a0 a1 c 4) $$ C4
  iintro C4
  iapply (stepB1 a0 a1 K c 7 7) $$ [B7 HO]
  · isplitr; · iexact HR
    isplitl [B7] <;> iassumption
  iintro ⟨B7, HO⟩
  iapply (stepB2 a0 a1 c 7) $$ B7
  iintro B7
  unfold WP; rw [wp_ret]; imodintro
  iapply Hk
  isplitl [C4]; · iexact C4
  isplitl [B7]; · iexact B7
  iexact HO

theorem part23 {v2 v8 v10 : BitVec 32} {Q : PUnit → sProp 𝕄} :
    iprop(records a0 a1 K ∗ B2 a0 a1 c 7 ∗ Y0 c 7 ∗ C0 c 5 ∗ ow c (owed c 8 7))
      ⊢ iprop((iprop(B3 a0 a1 c 7 ∗ Y2 c 7 ∗ C1 a0 a1 c 5 ∗ ow c (owed c 8 8)) -∗ Q ⟨⟩)
        -∗ WP c (k0_part23 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v8 v10 (k0_pay16 (k0_pay9 (a1 c)) (chunkOf (myV a0 c) 7) (chunkOf (xV a0 c) 7))) Q) := by
  rw [k0_part23_eq_skeleton]; unfold k0_part23_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B7, Y7, C5, HO⟩ Hk
  iapply (stepB3 a0 a1 c 7) $$ [B7 Y7]
  · isplitl [B7] <;> iassumption
  iintro ⟨B7, Y7⟩
  iapply (stepB4 a0 a1 K c 7 _ (dev18_eq c) 8 7 8 rfl rfl) $$ [Y7 HO]
  · isplitr; · iexact HR
    isplitl [Y7] <;> iassumption
  iintro ⟨Y7, HO⟩
  iapply (stepC1 a0 a1 K c 5 8 (by decide)) $$ [C5 HO]
  · isplitr; · iexact HR
    isplitl [C5] <;> iassumption
  iintro ⟨C5, HO⟩
  unfold WP; rw [wp_ret]; imodintro
  iapply Hk
  isplitl [B7]; · iexact B7
  isplitl [Y7]; · iexact Y7
  isplitl [C5]; · iexact C5
  iexact HO

theorem part24 {v2 v5 v8 v10 : BitVec 32} {Q : BitVec 32 → sProp 𝕄} :
    iprop(records a0 a1 K ∗ C1 a0 a1 c 5 ∗ C0 c 6 ∗ ow c (owed c 8 8))
      ⊢ iprop((iprop(C3 a0 a1 c 5 ∗ C2 a0 a1 c 6 ∗ ow c (owed c 8 8)) -∗ ∀ w, Q w)
        -∗ WP c (k0_part24 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10) Q) := by
  rw [k0_part24_eq_skeleton]; unfold k0_part24_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, C5, C6, HO⟩ Hk
  iapply (stepC2 a0 a1 c 5) $$ C5
  iintro C5
  iapply (stepC3 a0 a1 c 5) $$ C5
  iintro C5
  iapply (stepC1 a0 a1 K c 6 8 (by decide)) $$ [C6 HO]
  · isplitr; · iexact HR
    isplitl [C6] <;> iassumption
  iintro ⟨C6, HO⟩
  iapply (stepC2 a0 a1 c 6) $$ C6
  iintro C6
  unfold WP; rw [wp_ret]; imodintro
  ispecialize Hk $$ [C5 C6 HO]
  · isplitl [C5]; · iexact C5
    isplitl [C6]; · iexact C6
    iexact HO
  iapply Hk

theorem part25 {v2 v5 v8 v10 v750 : BitVec 32} {Q : PUnit → sProp 𝕄} :
    iprop(records a0 a1 K ∗ C2 a0 a1 c 6 ∗ C0 c 7 ∗ ow c (owed c 8 8))
      ⊢ iprop((iprop(C3 a0 a1 c 6 ∗ C3 a0 a1 c 7 ∗ ow c (owed c 8 8)) -∗ Q ⟨⟩)
        -∗ WP c (k0_part25 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c v2 v5 v8 v10 v750) Q) := by
  rw [k0_part25_eq_skeleton]; unfold k0_part25_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, C6, C7, HO⟩ Hk
  iapply (stepC3 a0 a1 c 6) $$ C6
  iintro C6
  iapply (stepC1 a0 a1 K c 7 8 (by decide)) $$ [C7 HO]
  · isplitr; · iexact HR
    isplitl [C7] <;> iassumption
  iintro ⟨C7, HO⟩
  iapply (stepC2 a0 a1 c 7) $$ C7
  iintro C7
  iapply (stepC3 a0 a1 c 7) $$ C7
  iintro C7
  unfold WP; rw [wp_ret]; imodintro
  iapply Hk
  isplitl [C6]; · iexact C6
  isplitl [C7]; · iexact C7
  iexact HO

theorem part26 {Q : PUnit → sProp 𝕄} :
    iprop(records a0 a1 K ∗ B3 a0 a1 c 0 ∗ B3 a0 a1 c 1 ∗ B3 a0 a1 c 2 ∗ C3 a0 a1 c 0 ∗ B3 a0 a1 c 3 ∗ C3 a0 a1 c 1 ∗ B3 a0 a1 c 4 ∗ ow c (owed c 8 8))
      ⊢ iprop((iprop(B4 a0 a1 c 0 ∗ B4 a0 a1 c 1 ∗ B4 a0 a1 c 2 ∗ C4 a0 a1 c 0 ∗ B4 a0 a1 c 3 ∗ C4 a0 a1 c 1 ∗ B4 a0 a1 c 4 ∗ ow c (owed c 8 8)) -∗ Q ⟨⟩)
        -∗ WP c (k0_part26 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c) Q) := by
  rw [k0_part26_eq_skeleton]; unfold k0_part26_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, B0, B1, B2, C0, B3, C1, B4, HO⟩ Hk
  iapply (waitO a0 a1 K c 0) $$ [B0 HO]
  · isplitr; · iexact HR
    isplitl [B0] <;> iassumption
  iintro ⟨B0, HO⟩
  iapply (waitO a0 a1 K c 1) $$ [B1 HO]
  · isplitr; · iexact HR
    isplitl [B1] <;> iassumption
  iintro ⟨B1, HO⟩
  iapply (waitO a0 a1 K c 2) $$ [B2 HO]
  · isplitr; · iexact HR
    isplitl [B2] <;> iassumption
  iintro ⟨B2, HO⟩
  iapply (waitO2 a0 a1 K c 0) $$ [C0 HO]
  · isplitr; · iexact HR
    isplitl [C0] <;> iassumption
  iintro ⟨C0, HO⟩
  iapply (waitO a0 a1 K c 3) $$ [B3 HO]
  · isplitr; · iexact HR
    isplitl [B3] <;> iassumption
  iintro ⟨B3, HO⟩
  iapply (waitO2 a0 a1 K c 1) $$ [C1 HO]
  · isplitr; · iexact HR
    isplitl [C1] <;> iassumption
  iintro ⟨C1, HO⟩
  iapply (waitO a0 a1 K c 4) $$ [B4 HO]
  · isplitr; · iexact HR
    isplitl [B4] <;> iassumption
  iintro ⟨B4, HO⟩
  unfold WP; rw [wp_ret]; imodintro
  iapply Hk
  isplitl [B0]; · iexact B0
  isplitl [B1]; · iexact B1
  isplitl [B2]; · iexact B2
  isplitl [C0]; · iexact C0
  isplitl [B3]; · iexact B3
  isplitl [C1]; · iexact C1
  isplitl [B4]; · iexact B4
  iexact HO

theorem part27 {Q : PUnit → sProp 𝕄} :
    iprop(records a0 a1 K ∗ C3 a0 a1 c 2 ∗ B3 a0 a1 c 5 ∗ C3 a0 a1 c 3 ∗ B3 a0 a1 c 6 ∗ C3 a0 a1 c 4 ∗ B3 a0 a1 c 7 ∗ ow c (owed c 8 8))
      ⊢ iprop((iprop(C4 a0 a1 c 2 ∗ B4 a0 a1 c 5 ∗ C4 a0 a1 c 3 ∗ B4 a0 a1 c 6 ∗ C4 a0 a1 c 4 ∗ B4 a0 a1 c 7 ∗ ow c (owed c 8 8)) -∗ Q ⟨⟩)
        -∗ WP c (k0_part27 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c) Q) := by
  rw [k0_part27_eq_skeleton]; unfold k0_part27_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, C2, B5, C3, B6, C4, B7, HO⟩ Hk
  iapply (waitO2 a0 a1 K c 2) $$ [C2 HO]
  · isplitr; · iexact HR
    isplitl [C2] <;> iassumption
  iintro ⟨C2, HO⟩
  iapply (waitO a0 a1 K c 5) $$ [B5 HO]
  · isplitr; · iexact HR
    isplitl [B5] <;> iassumption
  iintro ⟨B5, HO⟩
  iapply (waitO2 a0 a1 K c 3) $$ [C3 HO]
  · isplitr; · iexact HR
    isplitl [C3] <;> iassumption
  iintro ⟨C3, HO⟩
  iapply (waitO a0 a1 K c 6) $$ [B6 HO]
  · isplitr; · iexact HR
    isplitl [B6] <;> iassumption
  iintro ⟨B6, HO⟩
  iapply (waitO2 a0 a1 K c 4) $$ [C4 HO]
  · isplitr; · iexact HR
    isplitl [C4] <;> iassumption
  iintro ⟨C4, HO⟩
  iapply (waitO a0 a1 K c 7) $$ [B7 HO]
  · isplitr; · iexact HR
    isplitl [B7] <;> iassumption
  iintro ⟨B7, HO⟩
  unfold WP; rw [wp_ret]; imodintro
  iapply Hk
  isplitl [C2]; · iexact C2
  isplitl [B5]; · iexact B5
  isplitl [C3]; · iexact C3
  isplitl [B6]; · iexact B6
  isplitl [C4]; · iexact C4
  isplitl [B7]; · iexact B7
  iexact HO

theorem part28 {Q : PUnit → sProp 𝕄} :
    iprop(records a0 a1 K ∗ C3 a0 a1 c 5 ∗ C3 a0 a1 c 6 ∗ C3 a0 a1 c 7 ∗ A2 c 0 ∗ Y2 c 0 ∗ A2 c 1 ∗ ow c (owed c 8 8))
      ⊢ iprop((iprop(C4 a0 a1 c 5 ∗ C4 a0 a1 c 6 ∗ C4 a0 a1 c 7 ∗ A3 a0 c 0 ∗ Y3 a0 a1 c 0 ∗ A3 a0 c 1 ∗ ow c (owed c 8 8)) -∗ Q ⟨⟩)
        -∗ WP c (k0_part28 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 c) Q) := by
  rw [k0_part28_eq_skeleton]; unfold k0_part28_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, C5, C6, C7, A0, Y0, A1, HO⟩ Hk
  iapply (waitO2 a0 a1 K c 5) $$ [C5 HO]
  · isplitr; · iexact HR
    isplitl [C5] <;> iassumption
  iintro ⟨C5, HO⟩
  iapply (waitO2 a0 a1 K c 6) $$ [C6 HO]
  · isplitr; · iexact HR
    isplitl [C6] <;> iassumption
  iintro ⟨C6, HO⟩
  iapply (waitO2 a0 a1 K c 7) $$ [C7 HO]
  · isplitr; · iexact HR
    isplitl [C7] <;> iassumption
  iintro ⟨C7, HO⟩
  iapply (waitXs a0 a1 K c 0) $$ [A0 HO]
  · isplitr; · iexact HR
    isplitl [A0] <;> iassumption
  iintro ⟨A0, HO⟩
  iapply (waitYs a0 a1 K c 0) $$ [Y0 HO]
  · isplitr; · iexact HR
    isplitl [Y0] <;> iassumption
  iintro ⟨Y0, HO⟩
  iapply (waitXs a0 a1 K c 1) $$ [A1 HO]
  · isplitr; · iexact HR
    isplitl [A1] <;> iassumption
  iintro ⟨A1, HO⟩
  unfold WP; rw [wp_ret]; imodintro
  iapply Hk
  isplitl [C5]; · iexact C5
  isplitl [C6]; · iexact C6
  isplitl [C7]; · iexact C7
  isplitl [A0]; · iexact A0
  isplitl [Y0]; · iexact Y0
  isplitl [A1]; · iexact A1
  iexact HO

theorem part29 {Q : PUnit → sProp 𝕄} :
    iprop(records a0 a1 K ∗ Y2 c 1 ∗ A2 c 2 ∗ Y2 c 2 ∗ A2 c 3 ∗ Y2 c 3 ∗ ow c (owed c 8 8))
      ⊢ iprop((iprop(Y3 a0 a1 c 1 ∗ A3 a0 c 2 ∗ Y3 a0 a1 c 2 ∗ A3 a0 c 3 ∗ Y3 a0 a1 c 3 ∗ ow c (owed c 8 8)) -∗ Q ⟨⟩)
        -∗ WP c (k0_part29 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 ) Q) := by
  rw [k0_part29_eq_skeleton]; unfold k0_part29_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, Y1, A2, Y2, A3, Y3, HO⟩ Hk
  iapply (waitYs a0 a1 K c 1) $$ [Y1 HO]
  · isplitr; · iexact HR
    isplitl [Y1] <;> iassumption
  iintro ⟨Y1, HO⟩
  iapply (waitXs a0 a1 K c 2) $$ [A2 HO]
  · isplitr; · iexact HR
    isplitl [A2] <;> iassumption
  iintro ⟨A2, HO⟩
  iapply (waitYs a0 a1 K c 2) $$ [Y2 HO]
  · isplitr; · iexact HR
    isplitl [Y2] <;> iassumption
  iintro ⟨Y2, HO⟩
  iapply (waitXs a0 a1 K c 3) $$ [A3 HO]
  · isplitr; · iexact HR
    isplitl [A3] <;> iassumption
  iintro ⟨A3, HO⟩
  iapply (waitYs a0 a1 K c 3) $$ [Y3 HO]
  · isplitr; · iexact HR
    isplitl [Y3] <;> iassumption
  iintro ⟨Y3, HO⟩
  unfold WP; rw [wp_ret]; imodintro
  iapply Hk
  isplitl [Y1]; · iexact Y1
  isplitl [A2]; · iexact A2
  isplitl [Y2]; · iexact Y2
  isplitl [A3]; · iexact A3
  isplitl [Y3]; · iexact Y3
  iexact HO

theorem part30 {Q : PUnit → sProp 𝕄} :
    iprop(records a0 a1 K ∗ A2 c 4 ∗ Y2 c 4 ∗ A2 c 5 ∗ Y2 c 5 ∗ A2 c 6 ∗ ow c (owed c 8 8))
      ⊢ iprop((iprop(A3 a0 c 4 ∗ Y3 a0 a1 c 4 ∗ A3 a0 c 5 ∗ Y3 a0 a1 c 5 ∗ A3 a0 c 6 ∗ ow c (owed c 8 8)) -∗ Q ⟨⟩)
        -∗ WP c (k0_part30 (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17 ) Q) := by
  rw [k0_part30_eq_skeleton]; unfold k0_part30_skel
  simp only [pay2_eq, pay3_eq, pay4_eq, pay5_eq, pay6_eq, pay7_eq, pay8_eq, pay14_eq, pay15_eq, pay21_eq, pay22_eq, pay25_eq, pay26_eq, pay27_eq, pay28_eq, pay29_eq, pay30_eq, pay31_eq, pay35_eq, pay36_eq, pay37_eq, pay39_eq, pay40_eq, pay41_eq, pay42_eq, pay43_eq, pay44_eq, pay45_eq, pay46_eq, pay47_eq, Prog.lift, Prog.bind_op, Prog.bind_ret, Prog.pure_eq_ret]
  iintro ⟨#HR, A4, Y4, A5, Y5, A6, HO⟩ Hk
  iapply (waitXs a0 a1 K c 4) $$ [A4 HO]
  · isplitr; · iexact HR
    isplitl [A4] <;> iassumption
  iintro ⟨A4, HO⟩
  iapply (waitYs a0 a1 K c 4) $$ [Y4 HO]
  · isplitr; · iexact HR
    isplitl [Y4] <;> iassumption
  iintro ⟨Y4, HO⟩
  iapply (waitXs a0 a1 K c 5) $$ [A5 HO]
  · isplitr; · iexact HR
    isplitl [A5] <;> iassumption
  iintro ⟨A5, HO⟩
  iapply (waitYs a0 a1 K c 5) $$ [Y5 HO]
  · isplitr; · iexact HR
    isplitl [Y5] <;> iassumption
  iintro ⟨Y5, HO⟩
  iapply (waitXs a0 a1 K c 6) $$ [A6 HO]
  · isplitr; · iexact HR
    isplitl [A6] <;> iassumption
  iintro ⟨A6, HO⟩
  unfold WP; rw [wp_ret]; imodintro
  iapply Hk
  isplitl [A4]; · iexact A4
  isplitl [Y4]; · iexact Y4
  isplitl [A5]; · iexact A5
  isplitl [Y5]; · iexact Y5
  isplitl [A6]; · iexact A6
  iexact HO

end Cert.Swap

end
-- ==== Proof.Body.lean ====
/-
# The kernel of one device

The parts in the program's order, from what a device holds at the start to what it holds at the end.
-/
module

public import proofs.«01_k».proof.Proof.Parts

@[expose] public section

set_option maxRecDepth 8000

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-- What device `c` starts the kernel with, beside the records. -/
def Start (c : Dev nD) : sProp 𝕄 :=
  iprop((vpts (p0src c) c (a0 c) ∗ vpts (p1src c) c (a0 c) ∗ vpts (mysrc c) c (a0 c) ∗ vpts gM c (a1 c))
    ∗ (anyV pM c ∗ anyV myM c ∗ anyV gbM c ∗ anyW cc0_scratch6 c ∗ anyW cc0_scratch8 c)
    ∗ (semVal (dCell c psm0) 0 ∗ semVal (dCell c psm1) 0 ∗ semVal (dCell c smM) 0 ∗ semVal (dCell c smG) 0)
    ∗ (dutyTok ER (barCell (xp c)) 0 false ∗ dutyTok ER (barCell (yp c)) 0 true ∗ cred (tallyAt (barCell c) () 2) ∗ atPos ER (barCell c) 0 ∅ 0)
    ∗ ((bigSep Finset.univ fun i => A00 c i) ∗ (bigSep Finset.univ fun i => B00 c i) ∗ (bigSep Finset.univ fun i => Y00 c i) ∗ bigSep Finset.univ fun i => C0 c i)
    ∗ ow c (O₀ c))

/-- What it ends with. -/
def Finish (c : Dev nD) : sProp 𝕄 :=
  iprop((vpts (p0src c) c (a0 c) ∗ vpts (p1src c) c (a0 c) ∗ vpts (mysrc c) c (a0 c) ∗ vpts gM c (a1 c))
    ∗ (vpts pM c (pV a0 c) ∗ vpts gbM c (a1 c))
    ∗ (semVal (dCell c psm0) 0 ∗ semVal (dCell c psm1) 0 ∗ semVal (dCell c smM) 0 ∗ semVal (dCell c smG) 0 ∗ semVal (barCell c) 0)
    ∗ ((bigSep Finset.univ fun i => A3 a0 c i) ∗ (bigSep Finset.univ fun i => B4 a0 a1 c i) ∗ (bigSep Finset.univ fun i => Y3 a0 a1 c i) ∗ bigSep Finset.univ fun i => C4 a0 a1 c i)
    ∗ ow c 0)

theorem any_p (c : Dev nD) : (anyV pM c : sProp 𝕄) ⊢ iprop(anyV (ch pM 0) c ∗ anyV pRest c) := by
  unfold anyV
  iintro ⟨%f, H⟩
  ihave H := (Entails.of_eq (p_pieces c f)) $$ H
  icases H with ⟨H0, H1⟩
  isplitl [H0]
  · iexists f; iexact H0
  iexists f; iexact H1

variable (K : Dev nD × CK → ℕ) (c : Dev nD)

/-- The kernel of one device. -/
theorem body {Q : PUnit → sProp 𝕄} :
    iprop(records a0 a1 K ∗ Start a0 a1 c) ⊢ iprop((Finish a0 a1 c -∗ Q ⟨⟩) -∗ WP c (cc0_body (F := F) xM (Memref.isWhole_whole _) gM (Memref.isWhole_whole _) outM (Memref.isWhole_whole _) pM (Memref.isWhole_whole _) myM (Memref.isWhole_whole _) oM (Memref.isWhole_whole _) uM (Memref.isWhole_whole _) gbM (Memref.isWhole_whole _) xsM (Memref.isWhole_whole _) xrM (Memref.isWhole_whole _) ysM (Memref.isWhole_whole _) yrM (Memref.isWhole_whole _) cc0_scratch9 cc0_scratch10 cc0_scratch11 cc0_scratch12 cc0_scratch13 cc0_scratch14 cc0_scratch15 cc0_scratch16 cc0_scratch17) Q) := by
  unfold Start WP
  rw [cc0_body_eq_skeleton]; unfold cc0_body_skel
  simp only [k0_part31_eq_skeleton]; unfold k0_part31_skel
  simp only [wp_bind]
  iintro ⟨#HR, ⟨H0, H1, HM, HG⟩, ⟨Hp, Hm, Hb, Hx, Hy⟩, ⟨Hv0, Hv1, HvM, HvG⟩, ⟨Ht1, Ht2, Hc, Hat⟩, ⟨HA, HB, HY, HC⟩, HO⟩ Hk
  ihave Hp := (any_p c) $$ Hp
  icases Hp with ⟨Hp0, Hp1⟩
  iapply (part1 a0 c) $$ [H0 H1 Hp0 Hp1 Hv0 Hv1]
  · isplitl [H0 Hp0 Hv0]
    · isplitl [H0]; · iexact H0
      isplitl [Hp0] <;> iassumption
    isplitl [H1]; · iexact H1
    isplitl [Hp1] <;> iassumption
  iintro ⟨HF0, HF1⟩ %v2 %v5 %v8 %v9 %v10
  iapply (part2 a0 a1 K c) $$ [HF0 HM Hm HvM HG Hb HvG HO Ht1 Hx Ht2 Hy Hc Hat HA HY]
  · isplitr; · iexact HR
    isplitl [HF0]; · iexact HF0
    isplitl [HM Hm HvM]
    · isplitl [HM]; · iexact HM
      isplitl [Hm] <;> iassumption
    isplitl [HG Hb HvG]
    · isplitl [HG]; · iexact HG
      isplitl [Hb] <;> iassumption
    isplitl [HO]; · iexact HO
    isplitl [Ht1 Hx]; · isplitl [Ht1] <;> iassumption
    isplitl [Ht2 Hy]; · isplitl [Ht2] <;> iassumption
    isplitl [Hc Hat]; · isplitl [Hc] <;> iassumption
    isplitl [HA] <;> iassumption
  iintro ⟨⟨P0, H0, Hv0⟩, HM, HG, Hz, ⟨A0, A1, A2, A3, A4, A5, A6, A7⟩, HY, HO⟩ %v57
  iapply (part3 a0 a1 K c) $$ [HF1 A0 A1 HO]
  · isplitr; · iexact HR
    isplitl [HF1]; · iexact HF1
    isplitl [A0]; · iexact A0
    isplitl [A1] <;> iassumption
  iintro ⟨⟨H1, Hv1⟩, ⟨P1, P2, P3, P4, P5, P6, P7⟩, A0, A1, HO⟩
  iapply (part4 a0 a1 K c) $$ [P2 A2 P3 A3 HO]
  · isplitr; · iexact HR
    isplitl [P2]; · iexact P2
    isplitl [A2]; · iexact A2
    isplitl [P3]; · iexact P3
    isplitl [A3]; · iexact A3
    iexact HO
  iintro ⟨P2, A2, P3, A3, HO⟩
  iapply (part5 a0 a1 K c) $$ [A3 P4 A4 P5 A5 HO]
  · isplitr; · iexact HR
    isplitl [A3]; · iexact A3
    isplitl [P4]; · iexact P4
    isplitl [A4]; · iexact A4
    isplitl [P5]; · iexact P5
    isplitl [A5]; · iexact A5
    iexact HO
  iintro ⟨A3, P4, A4, P5, A5, HO⟩
  iapply (part6 a0 a1 K c) $$ [A5 P6 A6 P7 A7 HO]
  · isplitr; · iexact HR
    isplitl [A5]; · iexact A5
    isplitl [P6]; · iexact P6
    isplitl [A6]; · iexact A6
    isplitl [P7]; · iexact P7
    isplitl [A7]; · iexact A7
    iexact HO
  iintro ⟨A5, P6, A6, P7, A7, HO⟩ %w6
  iapply (part7 a0 a1 K c) $$ [A7 HM HG HB HO]
  · isplitr; · iexact HR
    isplitl [A7]; · iexact A7
    isplitl [HM]; · iexact HM
    isplitl [HG]; · iexact HG
    isplitl [HB] <;> iassumption
  iintro ⟨A7, ⟨HM, HvM⟩, ⟨⟨Hb, HG⟩, HvG⟩, ⟨B0, B1, B2, B3, B4, B5, B6, B7⟩, HO⟩
  ihave HY := (Entails.of_eq (split8 fun i => Y0 c i)) $$ HY
  icases HY with ⟨Y0, Y1, Y2, Y3, Y4, Y5, Y6, Y7⟩
  ihave HC := (Entails.of_eq (split8 fun i => C0 c i)) $$ HC
  icases HC with ⟨C0, C1, C2, C3, C4, C5, C6, C7⟩
  iapply (part8 a0 a1 K c) $$ [B0 Y0 HO]
  · isplitr; · iexact HR
    isplitl [B0]; · iexact B0
    isplitl [Y0]; · iexact Y0
    iexact HO
  iintro ⟨B0, Y0, HO⟩
  iapply (part9 a0 a1 K c) $$ [B1 HO]
  · isplitr; · iexact HR
    isplitl [B1]; · iexact B1
    iexact HO
  iintro ⟨B1, HO⟩
  iapply (part10 a0 a1 K c) $$ [B1 Y1 B2 HO]
  · isplitr; · iexact HR
    isplitl [B1]; · iexact B1
    isplitl [Y1]; · iexact Y1
    isplitl [B2]; · iexact B2
    iexact HO
  iintro ⟨B1, Y1, B2, HO⟩
  iapply (part11 a0 a1 K c) $$ [B2 Y2]
  · isplitr; · iexact HR
    isplitl [B2]; · iexact B2
    iexact Y2
  iintro ⟨B2, Y2⟩
  iapply (part12 a0 a1 K c) $$ [Y2 C0 HO]
  · isplitr; · iexact HR
    isplitl [Y2]; · iexact Y2
    isplitl [C0]; · iexact C0
    iexact HO
  iintro ⟨Y2, C0, HO⟩ %w12
  iapply (part13 a0 a1 K c) $$ [B3 Y3 HO]
  · isplitr; · iexact HR
    isplitl [B3]; · iexact B3
    isplitl [Y3]; · iexact Y3
    iexact HO
  iintro ⟨B3, Y3, HO⟩
  iapply (part14 a0 a1 K c) $$ [Y3 C1 HO]
  · isplitr; · iexact HR
    isplitl [Y3]; · iexact Y3
    isplitl [C1]; · iexact C1
    iexact HO
  iintro ⟨Y3, C1, HO⟩
  iapply (part15 a0 a1 K c) $$ [C1 B4 HO]
  · isplitr; · iexact HR
    isplitl [C1]; · iexact C1
    isplitl [B4]; · iexact B4
    iexact HO
  iintro ⟨C1, B4, HO⟩ %w15
  iapply (part16 a0 a1 K c) $$ [B4 Y4 HO]
  · isplitr; · iexact HR
    isplitl [B4]; · iexact B4
    isplitl [Y4]; · iexact Y4
    iexact HO
  iintro ⟨B4, Y4, HO⟩
  iapply (part17 a0 a1 K c) $$ [C2 B5 HO]
  · isplitr; · iexact HR
    isplitl [C2]; · iexact C2
    isplitl [B5]; · iexact B5
    iexact HO
  iintro ⟨C2, B5, HO⟩
  iapply (part18 a0 a1 K c) $$ [B5 Y5]
  · isplitr; · iexact HR
    isplitl [B5]; · iexact B5
    iexact Y5
  iintro ⟨B5, Y5⟩
  iapply (part19 a0 a1 K c) $$ [Y5 C3 HO]
  · isplitr; · iexact HR
    isplitl [Y5]; · iexact Y5
    isplitl [C3]; · iexact C3
    iexact HO
  iintro ⟨Y5, C3, HO⟩
  iapply (part20 a0 a1 K c) $$ [B6 Y6 HO]
  · isplitr; · iexact HR
    isplitl [B6]; · iexact B6
    isplitl [Y6]; · iexact Y6
    iexact HO
  iintro ⟨B6, Y6, HO⟩ %w20
  iapply (part21 a0 a1 K c) $$ [Y6 C4 HO]
  · isplitr; · iexact HR
    isplitl [Y6]; · iexact Y6
    isplitl [C4]; · iexact C4
    iexact HO
  iintro ⟨Y6, C4, HO⟩
  iapply (part22 a0 a1 K c) $$ [C4 B7 HO]
  · isplitr; · iexact HR
    isplitl [C4]; · iexact C4
    isplitl [B7]; · iexact B7
    iexact HO
  iintro ⟨C4, B7, HO⟩
  iapply (part23 a0 a1 K c) $$ [B7 Y7 C5 HO]
  · isplitr; · iexact HR
    isplitl [B7]; · iexact B7
    isplitl [Y7]; · iexact Y7
    isplitl [C5]; · iexact C5
    iexact HO
  iintro ⟨B7, Y7, C5, HO⟩
  iapply (part24 a0 a1 K c) $$ [C5 C6 HO]
  · isplitr; · iexact HR
    isplitl [C5]; · iexact C5
    isplitl [C6]; · iexact C6
    iexact HO
  iintro ⟨C5, C6, HO⟩ %w24
  iapply (part25 a0 a1 K c) $$ [C6 C7 HO]
  · isplitr; · iexact HR
    isplitl [C6]; · iexact C6
    isplitl [C7]; · iexact C7
    iexact HO
  iintro ⟨C6, C7, HO⟩
  iapply (part26 a0 a1 K c) $$ [B0 B1 B2 C0 B3 C1 B4 HO]
  · isplitr; · iexact HR
    isplitl [B0]; · iexact B0
    isplitl [B1]; · iexact B1
    isplitl [B2]; · iexact B2
    isplitl [C0]; · iexact C0
    isplitl [B3]; · iexact B3
    isplitl [C1]; · iexact C1
    isplitl [B4]; · iexact B4
    iexact HO
  iintro ⟨B0, B1, B2, C0, B3, C1, B4, HO⟩
  iapply (part27 a0 a1 K c) $$ [C2 B5 C3 B6 C4 B7 HO]
  · isplitr; · iexact HR
    isplitl [C2]; · iexact C2
    isplitl [B5]; · iexact B5
    isplitl [C3]; · iexact C3
    isplitl [B6]; · iexact B6
    isplitl [C4]; · iexact C4
    isplitl [B7]; · iexact B7
    iexact HO
  iintro ⟨C2, B5, C3, B6, C4, B7, HO⟩
  iapply (part28 a0 a1 K c) $$ [C5 C6 C7 A0 Y0 A1 HO]
  · isplitr; · iexact HR
    isplitl [C5]; · iexact C5
    isplitl [C6]; · iexact C6
    isplitl [C7]; · iexact C7
    isplitl [A0]; · iexact A0
    isplitl [Y0]; · iexact Y0
    isplitl [A1]; · iexact A1
    iexact HO
  iintro ⟨C5, C6, C7, A0, Y0, A1, HO⟩
  iapply (part29 a0 a1 K c) $$ [Y1 A2 Y2 A3 Y3 HO]
  · isplitr; · iexact HR
    isplitl [Y1]; · iexact Y1
    isplitl [A2]; · iexact A2
    isplitl [Y2]; · iexact Y2
    isplitl [A3]; · iexact A3
    isplitl [Y3]; · iexact Y3
    iexact HO
  iintro ⟨Y1, A2, Y2, A3, Y3, HO⟩
  iapply (part30 a0 a1 K c) $$ [A4 Y4 A5 Y5 A6 HO]
  · isplitr; · iexact HR
    isplitl [A4]; · iexact A4
    isplitl [Y4]; · iexact Y4
    isplitl [A5]; · iexact A5
    isplitl [Y5]; · iexact Y5
    isplitl [A6]; · iexact A6
    iexact HO
  iintro ⟨A4, Y4, A5, Y5, A6, HO⟩
  simp only [Prog.lift, Prog.bind_op, Prog.bind_ret, Prog.pure_eq_ret]
  iapply (waitYs a0 a1 K c 6) $$ [Y6 HO]
  · isplitr; · iexact HR
    isplitl [Y6] <;> iassumption
  iintro ⟨Y6, HO⟩
  unfold WP; rw [wp_ret]; imodintro
  iapply (waitXs a0 a1 K c 7) $$ [A7 HO]
  · isplitr; · iexact HR
    isplitl [A7] <;> iassumption
  iintro ⟨A7, HO⟩
  unfold WP; rw [wp_ret]; imodintro
  rw [wp_ret]; imodintro
  iapply (waitYs a0 a1 K c 7) $$ [Y7 HO]
  · isplitr; · iexact HR
    isplitl [Y7] <;> iassumption
  iintro ⟨Y7, HO⟩
  unfold WP; rw [wp_ret]; imodintro
  rw [wp_ret]; imodintro
  rw [owed_end]
  iapply Hk
  unfold Finish
  isplitl [H0 H1 HM HG]
  · isplitl [H0]; · iexact H0
    isplitl [H1]; · iexact H1
    isplitl [HM]; · iexact HM
    iexact HG
  isplitl [P0 P1 P2 P3 P4 P5 P6 P7 Hb]
  · isplitl [P0 P1 P2 P3 P4 P5 P6 P7]
    · rw [chunks, split8]
      isplitl [P0]; · iexact P0
      isplitl [P1]; · iexact P1
      isplitl [P2]; · iexact P2
      isplitl [P3]; · iexact P3
      isplitl [P4]; · iexact P4
      isplitl [P5]; · iexact P5
      isplitl [P6]; · iexact P6
      iexact P7
    iexact Hb
  isplitl [Hv0 Hv1 HvM HvG Hz]
  · isplitl [Hv0]; · iexact Hv0
    isplitl [Hv1]; · iexact Hv1
    isplitl [HvM]; · iexact HvM
    isplitl [HvG]; · iexact HvG
    iexact Hz
  isplitl [A0 A1 A2 A3 A4 A5 A6 A7 B0 B1 B2 B3 B4 B5 B6 B7 Y0 Y1 Y2 Y3 Y4 Y5 Y6 Y7 C0 C1 C2 C3 C4 C5 C6 C7]
  · simp only [split8]
    isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [Y0 Y1 Y2 Y3 Y4 Y5 Y6 Y7]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      iexact Y7
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  iexact HO

end Cert.Swap

end
-- ==== Proof.Ghost.lean ====
/-
# The ghost state the launch deals

Every cell of every device gets its round, its position and the tokens of its duties; the tokens are then handed to the
devices that pay them: a send's own token stays, an arrival's token goes to the neighbour that sends there, a barrier's two
tokens go to the two neighbours.
-/
module

public import proofs.«01_k».proof.Proof.Body

@[expose] public section

set_option maxRecDepth 8000

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-! ## Splitting by kinds -/

theorem split4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem split6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Over the cells of a device: its barrier, then its four kinds. -/
theorem splitCK (Φ : CK → sProp 𝕄) : bigSep Finset.univ Φ
    = iprop(((bigSep Finset.univ fun i => Φ (some (0, i))) ∗ (bigSep Finset.univ fun i => Φ (some (1, i))) ∗ (bigSep Finset.univ fun i => Φ (some (2, i)))
        ∗ bigSep Finset.univ fun i => Φ (some (3, i))) ∗ Φ none) := by
  rw [bigSep_univ_equiv (Equiv.optionEquivSumPUnit (Fin 4 × Fin 8) : Option (Fin 4 × Fin 8) ≃ (Fin 4 × Fin 8) ⊕ PUnit.{1}).symm Φ, bigSep_univ_sum, bigSep_univ_prod, split4,
    BI.bigSep_univ_of_subsingleton PUnit.unit]
  rfl

/-! ## The cells and the tokens -/

theorem slotOf_injective : Function.Injective slotOf := by
  intro p q h
  rcases p with _ | ⟨k, i⟩ <;> rcases q with _ | ⟨k', i'⟩
  · rfl
  · cases h
  · cases h
  · have h' : semOf k i = semOf k' i' := by injection h
    have := congrArg kind h'
    rw [kind_semOf, kind_semOf] at this
    exact this

theorem kcell_injective : Function.Injective (kcell : Dev nD × CK → GSem nD τ sig) := by
  rintro ⟨c, k⟩ ⟨c', k'⟩ h
  have h1 : c = c' := congrArg (fun g : GSem nD τ sig => g.1.1) h
  have h2 : k = k' := slotOf_injective (congrArg Prod.snd h)
  rw [h1, h2]

def cells : Finset (GSem nD τ sig) := Finset.univ.map ⟨kcell, kcell_injective⟩

abbrev TK : Type := (Fin 4 × Fin 8) ⊕ Bool
abbrev tokOf (ct : Dev nD × TK) : GSem nD τ sig × ℕ × Bool :=
  match ct.2 with
  | .inl ki => (kcell (ct.1, some ki), 0, false)
  | .inr d => (kcell (ct.1, none), 0, d)
theorem tokOf_injective : Function.Injective tokOf := by
  rintro ⟨c, t⟩ ⟨c', t'⟩ h
  rcases t with ki | d <;> rcases t' with ki' | d'
  · have := kcell_injective (congrArg Prod.fst h)
    injection this with h1 h2
    injection h2 with h2
    exact Prod.ext h1 (congrArg Sum.inl h2)
  · have := kcell_injective (congrArg Prod.fst h)
    injection this with h1 h2
    cases h2
  · have := kcell_injective (congrArg Prod.fst h)
    injection this with h1 h2
    cases h2
  · have := kcell_injective (congrArg Prod.fst h)
    injection this with h1 h2
    have h3 : d = d' := congrArg (fun x : GSem nD τ sig × ℕ × Bool => x.2.2) h
    exact Prod.ext h1 (congrArg Sum.inr h3)

def tokens : Finset (GSem nD τ sig × ℕ × Bool) := Finset.univ.map ⟨tokOf, tokOf_injective⟩

/-- The tokens of a device's own cells, and those of the duties it pays. -/
def toks (c : Dev nD) : sProp 𝕄 :=
  iprop(((bigSep Finset.univ fun i => dutyTok ER (xsCell c i) 0 false) ∗ (bigSep Finset.univ fun i => dutyTok ER (xrCell c i) 0 false)
      ∗ (bigSep Finset.univ fun i => dutyTok ER (ysCell c i) 0 false) ∗ bigSep Finset.univ fun i => dutyTok ER (yrCell c i) 0 false)
    ∗ dutyTok ER (barCell c) 0 false ∗ dutyTok ER (barCell c) 0 true)
def payToks (c : Dev nD) : sProp 𝕄 :=
  iprop(((bigSep Finset.univ fun i => dutyTok ER (xsCell c i) 0 false) ∗ (bigSep Finset.univ fun i => dutyTok ER (xrCell (xp c) i) 0 false)
      ∗ (bigSep Finset.univ fun i => dutyTok ER (ysCell c i) 0 false) ∗ bigSep Finset.univ fun i => dutyTok ER (yrCell (yp c) i) 0 false)
    ∗ dutyTok ER (barCell (xp c)) 0 false ∗ dutyTok ER (barCell (yp c)) 0 true)

theorem toks_eq (c : Dev nD) : bigSep Finset.univ (fun t : TK => (dutyTok ER (tokOf (c, t)).1 (tokOf (c, t)).2.1 (tokOf (c, t)).2.2 : sProp 𝕄)) = toks c := by
  unfold toks
  rw [bigSep_univ_sum, bigSep_univ_prod, split4, bigSep_univ_eq_bigSepL [false, true] (by decide) (by decide) (fun d : Bool => (dutyTok ER (tokOf (c, .inr d)).1 (tokOf (c, .inr d)).2.1 (tokOf (c, .inr d)).2.2 : sProp 𝕄))]
  rfl

theorem toks_around : (bigSep Finset.univ fun c : Dev nD => (toks c : sProp 𝕄)) = bigSep Finset.univ fun c : Dev nD => payToks c := by
  unfold toks payToks
  simp only [bigSep_sep']
  rw [bigSep_univ_equiv swapX (fun c : Dev nD => bigSep Finset.univ fun i => (dutyTok ER (xrCell c i) 0 false : sProp 𝕄)),
    bigSep_univ_equiv swapY (fun c : Dev nD => bigSep Finset.univ fun i => (dutyTok ER (yrCell c i) 0 false : sProp 𝕄)),
    bigSep_univ_equiv swapX (fun c : Dev nD => (dutyTok ER (barCell c) 0 false : sProp 𝕄)),
    bigSep_univ_equiv swapY (fun c : Dev nD => (dutyTok ER (barCell c) 0 true : sProp 𝕄))]
  rfl

/-! ## The kernel's own semaphores -/

/-- The DMA semaphores of a device: four of the copies in, then the six arrays. -/
abbrev osem (k : Fin 4 ⊕ (Fin 6 × Fin 8)) : SemLoc sig :=
  match k with
  | .inl ⟨0, _⟩ => .dma psm0
  | .inl ⟨1, _⟩ => .dma psm1
  | .inl ⟨2, _⟩ => .dma smM
  | .inl ⟨_ + 3, _⟩ => .dma smG
  | .inr (⟨0, _⟩, i) => .dma (sm cc0_scratch12 i)
  | .inr (⟨1, _⟩, i) => .dma (sm cc0_scratch13 i)
  | .inr (⟨2, _⟩, i) => .dma (sm cc0_scratch14 i)
  | .inr (⟨3, _⟩, i) => .dma (sm cc0_scratch15 i)
  | .inr (⟨4, _⟩, i) => .dma (sm cc0_scratch16 i)
  | .inr (⟨_ + 5, _⟩, i) => .dma (sm cc0_scratch17 i)

theorem ownSemFacts : Pipeline.OwnSemFacts cfg0.spec osem := by decide

/-- Those of copies within the device, all at zero. -/
def plain (c : Dev nD) : sProp 𝕄 :=
  iprop((semVal (dCell c psm0) 0 ∗ semVal (dCell c psm1) 0 ∗ semVal (dCell c smM) 0 ∗ semVal (dCell c smG) 0)
    ∗ (bigSep Finset.univ fun i => semVal (dCell c (sm cc0_scratch12 i)) 0) ∗ bigSep Finset.univ fun i => semVal (dCell c (sm cc0_scratch13 i)) 0)
/-- Those of the chunks sent and received, all at zero. -/
def zeros (c : Dev nD) : sProp 𝕄 :=
  iprop((bigSep Finset.univ fun i => semVal (xsCell c i) 0) ∗ (bigSep Finset.univ fun i => semVal (xrCell c i) 0)
    ∗ (bigSep Finset.univ fun i => semVal (ysCell c i) 0) ∗ bigSep Finset.univ fun i => semVal (yrCell c i) 0)

theorem ownSems0_eq (c : Dev nD) : (Pipeline.ownSems0 (Ix := Unit) (Name := ℕ) (U := UU) (Lvl := ℕ) (Val := Elt F) (τ := τ) osem c : sProp 𝕄)
    ⊣⊢ iprop(plain c ∗ zeros c) := by
  have e : (Pipeline.ownSems0 (Ix := Unit) (Name := ℕ) (U := UU) (Lvl := ℕ) (Val := Elt F) (τ := τ) osem c : sProp 𝕄)
      = iprop((semVal (dCell c psm0) 0 ∗ semVal (dCell c psm1) 0 ∗ semVal (dCell c smM) 0 ∗ semVal (dCell c smG) 0)
        ∗ (bigSep Finset.univ fun i => semVal (dCell c (sm cc0_scratch12 i)) 0) ∗ (bigSep Finset.univ fun i => semVal (dCell c (sm cc0_scratch13 i)) 0)
        ∗ zeros c) := by
    unfold Pipeline.ownSems0 zeros
    rw [bigSep_univ_sum, bigSep_univ_prod, split4, split6]
    rfl
  rw [e]
  unfold plain
  constructor
  · iintro ⟨H1, H2, H3, H4⟩
    isplitr [H4]
    · isplitl [H1]; · iexact H1
      isplitl [H2] <;> iassumption
    iexact H4
  · iintro ⟨⟨H1, H2, H3⟩, H4⟩
    isplitl [H1]; · iexact H1
    isplitl [H2]; · iexact H2
    isplitl [H3] <;> iassumption

theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells0_eq (c : Dev nD) : bigSep Finset.univ (fun k : CK => (semVal (kcell (c, k)) 0 : sProp 𝕄)) = iprop(zeros c ∗ semVal (barCell c) 0) := by
  rw [splitCK]; rfl

/-! ## What each device is dealt -/

def u₀ : UU := (initOf (Pipeline.cells cfgs cellOf_inj) (Pipeline.launchToks cfgs cellOf_inj), (initOf cells tokens, 1))

def G (c : Dev nD) : sProp 𝕄 :=
  iprop((bigSep Finset.univ fun k : CK => roundState ER (Rd a0 a1) (kcell (c, k)) 0)
    ∗ (bigSep Finset.univ fun k : CK => iprop(atPos ER (kcell (c, k)) 0 ∅ 0 ∗ reached ER (kcell (c, k)) 0)) ∗ toks c)

/-- The records without the levels. -/
def shared (K : Dev nD × CK → ℕ) : sProp 𝕄 :=
  iprop((bigSep Finset.univ fun ck : Dev nD × CK => cellInv ER (Rd a0 a1) (K ck) (kcell ck))
    ∗ bigSep Finset.univ fun ck : Dev nD × CK => reached ER (kcell ck) 0)
instance shared_persistent (K : Dev nD × CK → ℕ) : BI.Persistent (shared a0 a1 K) := by unfold shared; infer_instance

def linear (c : Dev nD) : sProp 𝕄 := iprop((bigSep Finset.univ fun k : CK => atPos ER (kcell (c, k)) 0 ∅ 0) ∗ payToks c ∗ plain c)
def G' (c : Dev nD) : sProp 𝕄 := iprop(∃ K, shared a0 a1 K ∗ linear c)

theorem fund_cells : BI.own (ER (initOf cells tokens)) ⊢ (|==> bigSep Finset.univ (G a0 a1) : sProp 𝕄) := by
  have hX (Φ : GSem nD τ sig → sProp 𝕄) : bigSep cells Φ = bigSep Finset.univ fun c : Dev nD => bigSep Finset.univ fun k : CK => Φ (kcell (c, k)) := by
    unfold cells; rw [BI.bigSep_map, bigSep_univ_prod]; rfl
  have hT : bigSep tokens (fun x => (dutyTok ER x.1 x.2.1 x.2.2 : sProp 𝕄)) = bigSep Finset.univ fun c : Dev nD => toks c := by
    unfold tokens; rw [BI.bigSep_map, bigSep_univ_prod]
    exact bigSep_congr fun c _ => toks_eq c
  iintro HX
  imod (Rounds.fund ER (Rd a0 a1) cells tokens) $$ HX with ⟨Hst, Hr, Hat, Htok⟩
  imodintro
  ihave Hst := (Entails.of_eq (hX fun g => roundState ER (Rd a0 a1) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G a0 a1 c)
      ⊢ |={Set.univ}=> iprop((bigSep Finset.univ fun k => iprop(∃ κ : ℕ, cellInv ER (Rd a0 a1) κ (kcell (c, k))))
          ∗ (bigSep Finset.univ fun k : CK => iprop(atPos ER (kcell (c, k)) 0 ∅ 0 ∗ reached ER (kcell (c, k)) 0)) ∗ toks c ∗ plain c) := by
  have ha : iprop((bigSep Finset.univ fun k : CK => semVal (kcell (c, k)) 0) ∗ bigSep Finset.univ fun k : CK => roundState ER (Rd a0 a1) (kcell (c, k)) 0)
      ⊢ (|={Set.univ}=> bigSep Finset.univ fun k => iprop(∃ κ : ℕ, cellInv ER (Rd a0 a1) κ (kcell (c, k))) : sProp 𝕄) := by
    rw [← bigSep_sep']
    exact (bigSep_mono fun k _ => (Rounds.body_intro ER (Rd a0 a1) (kcell (c, k))).trans inv_alloc).trans (bigSep_fupd _ _)
  unfold G
  rw [unscopedSems0_eq]
  iintro ⟨Hos, Hus, Hst, Hat, Htok⟩
  ihave Hos := ((ownSems0_eq (F := F) c).1) $$ Hos
  icases Hos with ⟨Hp, Hz⟩
  imod ha $$ [Hz Hus Hst] with Hinv
  · isplitl [Hz Hus]
    · rw [cells0_eq]
      isplitl [Hz] <;> iassumption
    iexact Hst
  imodintro
  isplitl [Hinv]; · iexact Hinv
  isplitl [Hat]; · iexact Hat
  isplitl [Htok] <;> iassumption

theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd a0 a1) κ (kcell (c, k))))
          ∗ (bigSep Finset.univ fun k : CK => iprop(atPos ER (kcell (c, k)) 0 ∅ 0 ∗ reached ER (kcell (c, k)) 0)) ∗ toks c ∗ plain c) : sProp 𝕄)
      ⊢ bigSep Finset.univ (G' a0 a1) := by
  rw [bigSep_sep', bigSep_sep', bigSep_sep', toks_around, ← bigSep_univ_prod (fun ck : Dev nD × CK => iprop(∃ κ : ℕ, cellInv ER (Rd a0 a1) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hp⟩
  ihave HK := (BI.bigSep_exists_pi Finset.univ (fun (ck : Dev nD × CK) (κ : ℕ) => (cellInv ER (Rd a0 a1) κ (kcell ck) : sProp 𝕄))) $$ HI
  icases HK with ⟨%K, #HI⟩
  iapply (deal_persistent (R := shared a0 a1 K) (Φ := fun c => linear c) fun c _ => exists_intro (Φ := fun K => iprop(shared a0 a1 K ∗ linear c)) K)
  isplitr
  · unfold shared; isplitl; · iexact HI
    iexact HR
  unfold linear
  simp only [bigSep_sep']
  isplitl [Hat]; · iexact Hat
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G a0 a1 c) : sProp 𝕄)
    ⊢ |={Set.univ}=> bigSep Finset.univ (G' a0 a1) :=
  ((bigSep_mono fun c _ => core_alloc a0 a1 c).trans (bigSep_fupd _ _)).trans (BI.fupd_mono (regroup a0 a1))

/-! ## The credit -/

/-- The cells of a device that others owe: its barrier and its arrivals. -/
abbrev dueOf (p : (Bool × Fin 8) ⊕ Unit) : SemLoc sig :=
  match p with
  | .inl (false, i) => .dma (sm cc0_scratch15 i)
  | .inl (true, i) => .dma (sm cc0_scratch17 i)
  | .inr _ => .reg barS
theorem dueOf_injective : Function.Injective dueOf := by decide

theorem cell_eq {a b : Dev nD} {s t : SemLoc sig} : ((((a : Thread nD τ), s) : GSem nD τ sig) = ((b : Thread nD τ), t)) ↔ a = b ∧ s = t :=
  ⟨fun h => ⟨Fin.ext (congrArg (fun g : GSem nD τ sig => g.1.1.val) h), congrArg Prod.snd h⟩, fun h => by rw [h.1, h.2]⟩

theorem xp_iff {c d : Dev nD} : c = xp d ↔ d = xp c := ⟨fun h => by rw [h, xp_xp], fun h => by rw [h, xp_xp]⟩
theorem yp_iff {c d : Dev nD} : c = yp d ↔ d = yp c := ⟨fun h => by rw [h, yp_yp], fun h => by rw [h, yp_yp]⟩

theorem filter_all : Finset.univ.filter (fun j : Fin 8 => 0 ≤ j.val) = Finset.univ := by decide

theorem owedX_at (d c : Dev nD) (s : SemLoc sig) (j : Option (Fin 8)) (hs : ∀ i : Fin 8, s = .dma (sm cc0_scratch15 i) ↔ j = some i) :
    owedX d 0 ((c : Thread nD τ), s) () = if d = xp c ∧ j.isSome then N else 0 := by
  unfold owedX
  rw [filter_all, Finset.sum_apply, Finsupp.finset_sum_apply]
  have e : ∀ i : Fin 8, (tallyAt (xrCell (xp d) i) () N : CellTallies nD τ sig Unit) ((c : Thread nD τ), s) () = if d = xp c ∧ j = some i then N else 0 := fun i => by
    rw [tallyAt_apply]; exact if_congr (by rw [cell_eq, hs, xp_iff]; simp) rfl rfl
  rw [Finset.sum_congr rfl fun i _ => e i]
  rcases j with _ | j
  · simp
  · rw [Finset.sum_eq_single j (fun i _ hi => if_neg fun h => hi (Option.some.inj h.2).symm) (fun h => absurd (Finset.mem_univ _) h)]
    simp

theorem owedY_at (d c : Dev nD) (s : SemLoc sig) (j : Option (Fin 8)) (hs : ∀ i : Fin 8, s = .dma (sm cc0_scratch17 i) ↔ j = some i) :
    owedY d 0 ((c : Thread nD τ), s) () = if d = yp c ∧ j.isSome then N else 0 := by
  unfold owedY
  rw [filter_all, Finset.sum_apply, Finsupp.finset_sum_apply]
  have e : ∀ i : Fin 8, (tallyAt (yrCell (yp d) i) () N : CellTallies nD τ sig Unit) ((c : Thread nD τ), s) () = if d = yp c ∧ j = some i then N else 0 := fun i => by
    rw [tallyAt_apply]; exact if_congr (by rw [cell_eq, hs, yp_iff]; simp) rfl rfl
  rw [Finset.sum_congr rfl fun i _ => e i]
  rcases j with _ | j
  · simp
  · rw [Finset.sum_eq_single j (fun i _ hi => if_neg fun h => hi (Option.some.inj h.2).symm) (fun h => absurd (Finset.mem_univ _) h)]
    simp

theorem owedB_at (d c e : Dev nD) (s : SemLoc sig) : (tallyAt (barCell e) () 1 : CellTallies nD τ sig Unit) ((c : Thread nD τ), s) () = if c = e ∧ s = .reg barS then 1 else 0 := by
  rw [tallyAt_apply]; exact if_congr (by rw [cell_eq]; simp) rfl rfl

theorem O₀_at (d c : Dev nD) (s : SemLoc sig) (j k : Option (Fin 8)) (hx : ∀ i : Fin 8, s = .dma (sm cc0_scratch15 i) ↔ j = some i) (hy : ∀ i : Fin 8, s = .dma (sm cc0_scratch17 i) ↔ k = some i) :
    O₀ d ((c : Thread nD τ), s) () = (((if d = xp c then if j.isSome then N else 0 else 0) + if d = yp c then if k.isSome then N else 0 else 0)
      + if d = yp c then if s = .reg barS then 1 else 0 else 0) + if d = xp c then if s = .reg barS then 1 else 0 else 0 := by
  unfold O₀ owed
  rw [Pi.add_apply, Finsupp.add_apply, Pi.add_apply, Finsupp.add_apply, Pi.add_apply, Finsupp.add_apply, owedX_at d c s j hx, owedY_at d c s k hy,
    owedB_at d c (yp d) s, owedB_at d c (xp d) s]
  simp only [ite_and, xp_iff, yp_iff]

theorem credit_at (c : Dev nD) (s : SemLoc sig) (j k : Option (Fin 8)) (hx : ∀ i : Fin 8, s = .dma (sm cc0_scratch15 i) ↔ j = some i) (hy : ∀ i : Fin 8, s = .dma (sm cc0_scratch17 i) ↔ k = some i) :
    launchCredit (Pipeline.owing O₀) 0 ((c : Thread nD τ), s) () = (((if j.isSome then N else 0) + if k.isSome then N else 0)
      + if s = .reg barS then 1 else 0) + if s = .reg barS then 1 else 0 := by
  rw [Pipeline.launchCredit_owing, Finset.sum_congr rfl fun d _ => O₀_at d c s j k hx hy]
  simp only [Finset.sum_add_distrib, Finset.sum_ite_eq', Finset.mem_univ, if_true]

theorem launch_at (c : Dev nD) (s : SemLoc sig) (n : ℕ) (h : launchCredit (Pipeline.owing O₀) 0 ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [h, Finsupp.single_eq_same]

theorem launch_bar (c : Dev nD) : tallyOn (barCell c) (launchCredit (Pipeline.owing O₀) 0 (barCell c)) = (tallyAt (barCell c) () 2 : CellTallies nD τ sig Unit) :=
  launch_at c _ 2 (by rw [credit_at c (.reg barS) none none (fun i => by simp) (fun i => by simp)]; simp)
theorem launch_xr (c : Dev nD) (i : Fin 8) : tallyOn (xrCell c i) (launchCredit (Pipeline.owing O₀) 0 (xrCell c i)) = (tallyAt (xrCell c i) () N : CellTallies nD τ sig Unit) :=
  launch_at c _ N (by
    rw [credit_at c (.dma (sm cc0_scratch15 i)) (some i) none (by revert i; decide) (by revert i; decide)]
    simp)
theorem launch_yr (c : Dev nD) (i : Fin 8) : tallyOn (yrCell c i) (launchCredit (Pipeline.owing O₀) 0 (yrCell c i)) = (tallyAt (yrCell c i) () N : CellTallies nD τ sig Unit) :=
  launch_at c _ N (by
    rw [credit_at c (.dma (sm cc0_scratch17 i)) none (some i) (by revert i; decide) (by revert i; decide)]
    simp)

/-- The credits a device starts with. -/
def creds (c : Dev nD) : sProp 𝕄 :=
  iprop(((bigSep Finset.univ fun i => cred (tallyAt (xrCell c i) () N)) ∗ bigSep Finset.univ fun i => cred (tallyAt (yrCell c i) () N))
    ∗ cred (tallyAt (barCell c) () 2))

theorem creds_intro (c : Dev nD) : (Pipeline.launchCred O₀ c : sProp 𝕄) ⊢ creds c := by
  unfold Pipeline.launchCred
  refine (BI.bigSep_subset (Finset.subset_univ (Finset.univ.map ⟨dueOf, dueOf_injective⟩))).trans ?_
  have e : bigSep (Finset.univ.map ⟨dueOf, dueOf_injective⟩) (fun s : SemLoc sig => (cred (tallyOn ((c : Thread nD τ), s) (launchCredit (Pipeline.owing O₀) 0 ((c : Thread nD τ), s))) : sProp 𝕄))
      = bigSep Finset.univ fun p => cred (tallyOn ((c : Thread nD τ), dueOf p) (launchCredit (Pipeline.owing O₀) 0 ((c : Thread nD τ), dueOf p))) :=
    BI.bigSep_map _
  rw [e, bigSep_univ_sum, bigSep_univ_prod, BI.bigSep_univ_of_subsingleton (), bigSep_univ_eq_bigSepL [false, true] (by decide) (by decide)]
  have hx := bigSep_congr (s := Finset.univ) fun (i : Fin 8) _ => congrArg (cred : _ → sProp 𝕄) (launch_xr c i)
  have hy := bigSep_congr (s := Finset.univ) fun (i : Fin 8) _ => congrArg (cred : _ → sProp 𝕄) (launch_yr c i)
  unfold creds
  rw [← hx, ← hy, ← launch_bar]
  exact Entails.refl _

end Cert.Swap

end
-- ==== Proof.Run.lean ====
/-
# The run

A device's kernel turns what the launch deals it into its result: the program terminates, the result array holds what the
kernel computed, the arguments are unchanged, and every counter is zero.
-/
module

public import proofs.«01_k».proof.Proof.Ghost
public import proofs.«01_k».proof.Proof.Gen.KernelIdeal.Points
public import Idealize.ShloMosaic.Lib.Pipeline.CollectiveSegs
public import Idealize.ShloMosaic.Lib.Quiescent

@[expose] public section

set_option maxRecDepth 30000

noncomputable section

namespace Cert.Swap

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a0 : Dev nD → S1x2048x1024.Idx → Elt F .f32) (a1 : Dev nD → S1024.Idx → Elt F .f32)

/-! ## From the launch to the kernel's start -/

section Start
variable (c : Dev nD)

/-- The scratch buffers, each holding anything. -/
def scr : sProp 𝕄 :=
  iprop(anyW cc0_scratch0 c ∗ anyW cc0_scratch1 c ∗ anyW cc0_scratch2 c ∗ anyW cc0_scratch3 c ∗ anyW cc0_scratch4 c ∗ anyW cc0_scratch5 c
    ∗ anyW cc0_scratch6 c ∗ anyW cc0_scratch7 c ∗ anyW cc0_scratch8 c)
theorem scr_eq : (Pipeline.scopedRest cfg0.spec c : sProp 𝕄) = scr c := by rw [scopedRest0_eq]; rfl

/-- The two arguments. -/
def args : sProp 𝕄 := iprop(((c : Thread nD τ).loc main_arg0 ↦{fullShare} a0 c) ∗ ((c : Thread nD τ).loc main_arg1 ↦{fullShare} a1 c))

def entry : sProp 𝕄 := iprop((∃ K, records a0 a1 K) ∗ linear c ∗ creds c ∗ args a0 a1 c ∗ anyW main_v1 c)

theorem A00_intro : iprop(anyW cc0_scratch5 c ∗ (bigSep Finset.univ fun i => dutyTok ER (xsCell c i) 0 false)
      ∗ (bigSep Finset.univ fun i => dutyTok ER (xrCell (xp c) i) 0 false) ∗ bigSep Finset.univ fun i => atPos ER (xsCell c i) 0 ∅ 0)
    ⊢ (bigSep Finset.univ fun i => A00 c i : sProp 𝕄) := by
  refine (BI.sep_mono ((anyW_anyV cc0_scratch5 c).trans (any_chunks xsM c)) (Entails.refl _)).trans ?_
  unfold A00
  simp only [bigSep_sep']
  exact Entails.refl _
theorem Y00_intro : iprop(anyW cc0_scratch7 c ∗ (bigSep Finset.univ fun i => dutyTok ER (ysCell c i) 0 false)
      ∗ (bigSep Finset.univ fun i => dutyTok ER (yrCell (yp c) i) 0 false) ∗ bigSep Finset.univ fun i => atPos ER (ysCell c i) 0 ∅ 0)
    ⊢ (bigSep Finset.univ fun i => Y00 c i : sProp 𝕄) := by
  refine (BI.sep_mono ((anyW_anyV cc0_scratch7 c).trans (any_chunks ysM c)) (Entails.refl _)).trans ?_
  unfold Y00
  simp only [bigSep_sep']
  exact Entails.refl _
theorem B00_intro : iprop(((bigSep Finset.univ fun i => cred (tallyAt (xrCell c i) () N)) ∗ bigSep Finset.univ fun i => atPos ER (xrCell c i) 0 ∅ 0)
      ∗ anyW cc0_scratch2 c ∗ (bigSep Finset.univ fun i => semVal (dCell c (sm cc0_scratch12 i)) 0) ∗ bigSep Finset.univ fun i => anyO (out1 c i) c)
    ⊢ (bigSep Finset.univ fun i => B00 c i : sProp 𝕄) := by
  refine (sep_mono_right (BI.sep_mono ((anyW_anyV cc0_scratch2 c).trans (any_chunks oM c)) (Entails.refl _))).trans ?_
  unfold B00
  simp only [bigSep_sep']
  exact Entails.refl _
theorem C0_intro : iprop(((bigSep Finset.univ fun i => cred (tallyAt (yrCell c i) () N)) ∗ bigSep Finset.univ fun i => atPos ER (yrCell c i) 0 ∅ 0)
      ∗ anyW cc0_scratch3 c ∗ (bigSep Finset.univ fun i => semVal (dCell c (sm cc0_scratch13 i)) 0) ∗ bigSep Finset.univ fun i => anyO (out2 c i) c)
    ⊢ (bigSep Finset.univ fun i => C0 c i : sProp 𝕄) := by
  refine (sep_mono_right (BI.sep_mono ((anyW_anyV cc0_scratch3 c).trans (any_chunks uM c)) (Entails.refl _))).trans ?_
  unfold C0
  simp only [bigSep_sep']
  exact Entails.refl _

theorem out_intro : (anyW main_v1 c : sProp 𝕄) ⊢ iprop((bigSep Finset.univ fun i => anyO (out1 c i) c) ∗ bigSep Finset.univ fun i => anyO (out2 c i) c) := by
  unfold anyW
  iintro ⟨%f, H⟩
  iapply (out_any c f); iexact H

theorem start_intro : iprop(linear c ∗ creds c ∗ args a0 a1 c ∗ anyW main_v1 c ∗ scr c ∗ ow c (O₀ c))
    ⊢ iprop(Start a0 a1 c ∗ (c : Thread nD τ).loc main_arg0 ↦[idle c]{fullShare} a0 c) := by
  unfold linear payToks plain creds args scr Start
  rw [splitCK]
  iintro ⟨⟨⟨⟨Hp0, Hp1, Hp2, Hp3⟩, Hpb⟩, ⟨⟨Ht0, Ht1, Ht2, Ht3⟩, Htx, Hty⟩, ⟨Hs0, Hs1, Hs2, Hs3⟩, Ho, Hu⟩, ⟨⟨Hcx, Hcy⟩, Hcb⟩, ⟨HX, HG⟩, Hv,
    ⟨S0, S1, S2, S3, S4, S5, S6, S7, S8⟩, HO⟩
  ihave HX := ((arg_pieces c (a0 c)).1) $$ HX
  icases HX with ⟨X0, X1, X2, Xi⟩
  ihave Hv := (out_intro (F := F) c) $$ Hv
  icases Hv with ⟨V1, V2⟩
  isplitr [Xi]
  · isplitl [X0 X1 X2 HG]
    · isplitl [X0]; · iexact X0
      isplitl [X1]; · iexact X1
      isplitl [X2]; · iexact X2
      iapply (Entails.of_eq (whole_vpts main_arg1 c (a1 c))); iexact HG
    isplitl [S0 S1 S4 S6 S8]
    · isplitl [S0]; · iapply (anyW_anyV cc0_scratch0 c); iexact S0
      isplitl [S1]; · iapply (anyW_anyV cc0_scratch1 c); iexact S1
      isplitl [S4]; · iapply (anyW_anyV cc0_scratch4 c); iexact S4
      isplitl [S6] <;> iassumption
    isplitl [Hs0 Hs1 Hs2 Hs3]
    · isplitl [Hs0]; · iexact Hs0
      isplitl [Hs1]; · iexact Hs1
      isplitl [Hs2] <;> iassumption
    isplitl [Htx Hty Hcb Hpb]
    · isplitl [Htx]; · iexact Htx
      isplitl [Hty]; · iexact Hty
      isplitl [Hcb]; · iexact Hcb
      iexact Hpb
    isplitr [HO]
    · isplitl [S5 Ht0 Ht1 Hp0]
      · iapply (A00_intro (F := F) c)
        isplitl [S5]; · iexact S5
        isplitl [Ht0]; · iexact Ht0
        isplitl [Ht1]; · iexact Ht1
        iexact Hp0
      isplitl [Hcx Hp1 S2 Ho V1]
      · iapply (B00_intro (F := F) c)
        isplitl [Hcx Hp1]; · (isplitl [Hcx]; · iexact Hcx
                              iexact Hp1)
        isplitl [S2]; · iexact S2
        isplitl [Ho] <;> iassumption
      isplitl [S7 Ht2 Ht3 Hp2]
      · iapply (Y00_intro (F := F) c)
        isplitl [S7]; · iexact S7
        isplitl [Ht2]; · iexact Ht2
        isplitl [Ht3]; · iexact Ht3
        iexact Hp2
      · iapply (C0_intro (F := F) c)
        isplitl [Hcy Hp3]; · (isplitl [Hcy]; · iexact Hcy
                              iexact Hp3)
        isplitl [S3]; · iexact S3
        isplitl [Hu] <;> iassumption
    iexact HO
  iexact Xi

/-! ## From the kernel's end to the final state -/

def result : sProp 𝕄 := iprop(args a0 a1 c ∗ (c : Thread nD τ).loc main_v1 ↦{fullShare} outV a0 a1 c)

theorem back (r : Ref sig .tc) (f : Buf (Elt F) ((c : Thread nD τ).loc r)) : (vpts (Memref.whole r) c f : sProp 𝕄) ⊢ anyW r c := by
  rw [← whole_vpts]; exact exists_intro (Φ := fun f : Buf (Elt F) ((c : Thread nD τ).loc r) => ((c : Thread nD τ).loc r ↦{fullShare} f : sProp 𝕄)) f

theorem A3_elim : (bigSep Finset.univ fun i => A3 a0 c i : sProp 𝕄) ⊢ iprop(anyW cc0_scratch5 c ∗ bigSep Finset.univ fun i => semVal (xsCell c i) 0) := by
  unfold A3
  rw [bigSep_sep', ← chunks xsM]
  exact BI.sep_mono (back c cc0_scratch5 _) (Entails.refl _)
theorem Y3_elim : (bigSep Finset.univ fun i => Y3 a0 a1 c i : sProp 𝕄) ⊢ iprop(anyW cc0_scratch7 c ∗ bigSep Finset.univ fun i => semVal (ysCell c i) 0) := by
  unfold Y3
  rw [bigSep_sep', ← chunks ysM]
  exact BI.sep_mono (back c cc0_scratch7 _) (Entails.refl _)
theorem B4_elim : (bigSep Finset.univ fun i => B4 a0 a1 c i : sProp 𝕄)
    ⊢ iprop(anyW cc0_scratch1 c ∗ (anyW cc0_scratch6 c ∗ bigSep Finset.univ fun i => semVal (xrCell c i) 0) ∗ anyW cc0_scratch2 c
      ∗ (bigSep Finset.univ fun i => semVal (dCell c (sm cc0_scratch12 i)) 0) ∗ bigSep Finset.univ fun i => opts (out1 c i) c (outV a0 a1 c)) := by
  unfold B4
  simp only [bigSep_sep']
  rw [← chunks myM, ← chunks xrM, ← chunks oM]
  exact BI.sep_mono (back c cc0_scratch1 _) (BI.sep_mono (BI.sep_mono (back c cc0_scratch6 _) (Entails.refl _)) (BI.sep_mono (back c cc0_scratch2 _) (Entails.refl _)))
theorem C4_elim : (bigSep Finset.univ fun i => C4 a0 a1 c i : sProp 𝕄)
    ⊢ iprop((anyW cc0_scratch8 c ∗ bigSep Finset.univ fun i => semVal (yrCell c i) 0) ∗ anyW cc0_scratch3 c
      ∗ (bigSep Finset.univ fun i => semVal (dCell c (sm cc0_scratch13 i)) 0) ∗ bigSep Finset.univ fun i => opts (out2 c i) c (outV a0 a1 c)) := by
  unfold C4
  simp only [bigSep_sep']
  rw [← chunks yrM, ← chunks uM]
  exact BI.sep_mono (BI.sep_mono (back c cc0_scratch8 _) (Entails.refl _)) (BI.sep_mono (back c cc0_scratch3 _) (Entails.refl _))

theorem finish_elim : iprop(Finish a0 a1 c ∗ (c : Thread nD τ).loc main_arg0 ↦[idle c]{fullShare} a0 c)
    ⊢ iprop((result a0 a1 c ∗ scr c ∗ (plain c ∗ zeros c) ∗ semVal (barCell c) 0) ∗ ow c 0) := by
  unfold Finish result args scr plain zeros
  rw [out_pieces]
  iintro ⟨⟨⟨X0, X1, X2, HG⟩, ⟨S0, S4⟩, ⟨Hs0, Hs1, Hs2, Hs3, Hb⟩, ⟨HA, HB, HY, HC⟩, HO⟩, Xi⟩
  ihave HA := (A3_elim a0 c) $$ HA
  icases HA with ⟨S5, Z0⟩
  ihave HB := (B4_elim a0 a1 c) $$ HB
  icases HB with ⟨S1, ⟨S6, Z1⟩, S2, Ho, V1⟩
  ihave HY := (Y3_elim a0 a1 c) $$ HY
  icases HY with ⟨S7, Z2⟩
  ihave HC := (C4_elim a0 a1 c) $$ HC
  icases HC with ⟨⟨S8, Z3⟩, S3, Hu, V2⟩
  isplitr [HO]
  · isplitl [X0 X1 X2 Xi HG V1 V2]
    · isplitl [X0 X1 X2 Xi HG]
      · isplitl [X0 X1 X2 Xi]
        · iapply ((arg_pieces c (a0 c)).2)
          isplitl [X0]; · iexact X0
          isplitl [X1]; · iexact X1
          isplitl [X2] <;> iassumption
        iapply (Entails.of_eq (whole_vpts main_arg1 c (a1 c)).symm); iexact HG
      isplitl [V1] <;> iassumption
    isplitl [S0 S1 S2 S3 S4 S5 S6 S7 S8]
    · isplitl [S0]; · iapply (back c cc0_scratch0 _); iexact S0
      isplitl [S1]; · iexact S1
      isplitl [S2]; · iexact S2
      isplitl [S3]; · iexact S3
      isplitl [S4]; · iapply (back c cc0_scratch4 _); iexact S4
      isplitl [S5]; · iexact S5
      isplitl [S6]; · iexact S6
      isplitl [S7] <;> iassumption
    isplitr [Hb]
    · isplitl [Hs0 Hs1 Hs2 Hs3 Ho Hu]
      · isplitl [Hs0 Hs1 Hs2 Hs3]
        · isplitl [Hs0]; · iexact Hs0
          isplitl [Hs1]; · iexact Hs1
          isplitl [Hs2] <;> iassumption
        isplitl [Ho] <;> iassumption
      isplitl [Z0]; · iexact Z0
      isplitl [Z1]; · iexact Z1
      isplitl [Z2] <;> iassumption
    iexact Hb
  iexact HO

end Start

/-! ## The run from a memory -/

variable (m : (ℓ : Loc nD τ sig) → Buf (Elt F) ℓ) (ρ : Dev nD → PrngReg)

/-- What the memory gives each device as arguments. -/
def arg0 (c : Dev nD) : S1x2048x1024.Idx → Elt F .f32 := m ((c : Thread nD τ).loc main_arg0)
def arg1 (c : Dev nD) : S1024.Idx → Elt F .f32 := m ((c : Thread nD τ).loc main_arg1)

def Φ₀ (c : Dev nD) : sProp 𝕄 := iprop(entry (arg0 m) (arg1 m) c ∗ scr c)
def Φ₁ (c : Dev nD) : sProp 𝕄 := iprop(result (arg0 m) (arg1 m) c ∗ scr c ∗ (plain c ∗ zeros c) ∗ semVal (barCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_obligation (c : Dev nD) : BodyObligation (dats m 0 c) (defs₀ (F := F)) 𝒱₀ () Set.univ := fun t => by
  rw [fin_N0 t]
  show iprop(Φ₀ m c ∗ (dats m 0 c).owesAt () t0_0.castSucc ∗ (BI.emp : sProp 𝕄))
    ⊢ wp frame (wpE (defs₀ (F := F)) 𝒱₀ (c : Thread nD τ) none) Set.univ (bodyAt0 t0_0)
      fun _ => iprop(Φ₁ m c ∗ (dats m 0 c).owesAt () t0_0.succ ∗ (BI.emp : sProp 𝕄))
  unfold Φ₀ entry
  iintro ⟨⟨⟨⟨%K, #HR⟩, Hl, Hc, Ha, Hv⟩, Hs⟩, ⟨%W, -, HO⟩, -⟩
  ihave H := (start_intro (arg0 m) (arg1 m) c) $$ [Hl Hc Ha Hv Hs HO]
  · isplitl [Hl]; · iexact Hl
    isplitl [Hc]; · iexact Hc
    isplitl [Ha]; · iexact Ha
    isplitl [Hv]; · iexact Hv
    isplitl [Hs]; · iexact Hs
    unfold ow; iexists W; iexact HO
  icases H with ⟨H, Hi⟩
  iapply (body (arg0 m) (arg1 m) K c) $$ [H]
  · isplitr; · iexact HR
    iexact H
  iintro H
  ihave H := (finish_elim (arg0 m) (arg1 m) c) $$ [H Hi]
  · isplitl [H] <;> iassumption
  unfold ow
  icases H with ⟨H, ⟨%W', HO⟩⟩
  isplitl [H]; · unfold Φ₁; iexact H
  isplitl [HO]
  · iexists W'
    isplitr; · ipureintro; exact fun _ _ => Or.inl trivial
    iexact HO
  iempintro

theorem entry_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (arg0 m) (arg1 m) c)
      ⊢ |={Set.univ}=> iprop(entry (arg0 m) (arg1 m) c ∗ emp) := by
  rw [Pipeline.unscopedRestP_none, unscopedRest0_eq]
  unfold G' shared entry records args anyW
  iintro ⟨⟨H0, H1, Hv⟩, #Hlev, Hcr, -, ⟨%K, ⟨#HI, #Hr⟩, Hl⟩⟩
  ihave Hc := (creds_intro (F := F) c) $$ Hcr
  imodintro
  isplitl
  · isplitr
    · iexists K
      isplitr; · iexact HI
      isplitr; · iexact Hr
      iexact Hlev
    isplitl [Hl]; · iexact Hl
    isplitl [Hc]; · iexact Hc
    isplitl [H0 H1]
    · isplitl [H0]; · iexact H0
      iexact H1
    iexists (m ((c : Thread nD τ).loc main_v1)); iexact Hv
  iempintro

theorem phi0_intro (c : Dev nD) :
    iprop(entry (arg0 m) (arg1 m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N) ⊢ iprop((unscopedSems0 c ∗ result (arg0 m) (arg1 m) c) ∗ Pipeline.ownSems0 osem c ∗ Pipeline.scopedRest cfg0.spec c) := by
  rw [show (dats m 0 c).Φ (Fin.last cfg0.N) = Φ₁ m c from rfl, scr_eq, unscopedSems0_eq]
  unfold Φ₁
  iintro ⟨Hr, Hs, Hz, Hb⟩
  isplitl [Hr Hb]
  · isplitl [Hb] <;> iassumption
  isplitl [Hz]
  · iapply ((ownSems0_eq (F := F) c).2); iexact Hz
  iexact Hs

theorem waits (c : Dev nD) : (levAts L lv : sProp 𝕄) ⊢ Pipeline.cellsWaits cfgs (dats m) () 0 c :=
  Pipeline.cellsWaits_intro cfgs (dats m) () 0 c fun w => w.elim0

/-- What a final memory holds on a device. -/
def Reads (c : Dev nD) (s : MemSt nD τ sig (Elt F)) : Prop :=
  s.mem ((c : Thread nD τ).loc main_v1) = outV (arg0 m) (arg1 m) c
    ∧ s.mem ((c : Thread nD τ).loc main_arg0) = m ((c : Thread nD τ).loc main_arg0)
    ∧ s.mem ((c : Thread nD τ).loc main_arg1) = m ((c : Thread nD τ).loc main_arg1)

theorem reads (c : Dev nD) (s' : Phys nD τ sig (Elt F)) :
    iprop(result (arg0 m) (arg1 m) c ∗ SI s') ⊢ (iprop(⌜Reads m c s'.mem⌝ ∗ SI s') : sProp 𝕄) := by
  unfold result args
  iintro ⟨⟨⟨H0, H1⟩, Hv⟩, HSI⟩
  icombine HSI H0 gives %h0
  icombine HSI H1 gives %h1
  icombine HSI Hv gives %hv
  isplitr
  · ipureintro
    exact ⟨Buf.eq_of_forall_mem_univ hv, Buf.eq_of_forall_mem_univ h0, Buf.eq_of_forall_mem_univ h1⟩
  iexact HSI

theorem launch_cells : BI.own (((Emb.inl : Emb URB (URB × Counters)).trans embR) (initOf cells tokens))
    ⊢ (|==> bigSep Finset.univ (G (arg0 m) (arg1 m)) : sProp 𝕄) := fund_cells (arg0 m) (arg1 m)

/-- From any memory with zero counters, for any float values: the program terminates on every device; its result array
    then holds the kernel's result, its arguments what they held, and every counter is zero. -/
theorem run_main : θ_run defs (onTc (τ := τ) (main (F := F))) ⟨m, fun _ => 0, ρ⟩ (fun r => (∀ c : Dev nD, Reads m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (arg0 m) (arg1 m)) (G' := G' (arg0 m) (arg1 m)) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (launch_cells m) $$ HX with HG
      imodintro
      isplitl [HP] <;> iassumption)
    (hglob := glob (arg0 m) (arg1 m))
    (hA := fun _ w => w.elim0) (hpf := fun _ k => k.elim0)
    (X := entry (arg0 m) (arg1 m)) (Y := fun c => iprop(unscopedSems0 c ∗ result (arg0 m) (arg1 m) c)) (Z := fun _ => iprop(emp))
    (hX := entry_intro m ρ) (hin := phi0_intro m) (hout := phi1_exit m)
    (QY := fun c s => Reads m c s ∧ ∀ sm : SemLoc sig, sm.isScoped .tc = false → s.sem ((c.tc : Thread nD τ), sm) = 0)
    (hY := fun c s' => by
      iintro ⟨⟨Hu, Hr⟩, -, HSI⟩
      ihave H := (reads m c s') $$ [Hr HSI]
      · isplitl [Hr] <;> iassumption
      icases H with ⟨%hr, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hr, hs⟩
      iexact HSI)
    (hQ := fun _ h hs => ⟨fun c => (h c).2.2.1, sem_eq_zero hs fun c => (h c).2.2.2⟩)

end Cert.Swap

end
-- ==== Proof.Value.lean ====
/-
# The kernel's result and the reference's, over the extended reals

Both are one function of a row of sums `y`: each entry times the reciprocal square root of the row's mean square plus a
small constant, times the matching entry of the second argument. The reference divides by a square root where the kernel
multiplies by a reciprocal square root; what is under the root is positive, so the two agree.
-/
module

public import proofs.«01_k».proof.Proof.Contents
public import proofs.«01_k».proof.Proof.Gen.ReferenceIdeal
public import Idealize.ShloMosaic.Lib.Pointwise
public import Idealize.ShloMosaic.Lib.IdealHost
public import Idealize.ShloMosaic.Lib.Layout

@[expose] public section

noncomputable section

open Idealize.ShloMosaic Idealize.ShloMosaic.TcCoe

namespace Cert.Row

/-- The row length, the mean's divisor. -/
abbrev len : EReal := Ideal.ofBits .f32 1149239296#32
/-- The constant added under the root. -/
abbrev eps : EReal := Ideal.ofBits .f32 897988541#32

theorem len_eq : len = ((1024 : ℝ) : EReal) := by
  unfold len; simp [Ideal.ofBits, Ideal.ieee, -EReal.coe_mul]; norm_num
theorem eps_pos : 0 < eps := by
  unfold eps; simp only [Ideal.ofBits, Ideal.ieee]; simp [-EReal.coe_mul]

theorem mul_self_nonneg (x : EReal) : 0 ≤ x * x := by
  induction x using EReal.rec with
  | bot => simp
  | top => simp
  | coe r => rw [← EReal.coe_mul]; exact EReal.coe_nonneg.mpr (_root_.mul_self_nonneg r)

theorem arg_pos (f : Fin 1024 → EReal) : 0 < Ideal.div (∑ k, f k * f k) len + eps := by
  refine lt_of_lt_of_le eps_pos (le_add_of_nonneg_left ?_)
  rw [len_eq]
  unfold Ideal.div
  rw [if_neg (by norm_num)]
  refine mul_nonneg (Finset.sum_nonneg fun k _ => mul_self_nonneg (f k)) ?_
  rw [← EReal.coe_inv]
  exact EReal.coe_nonneg.mpr (by norm_num)

/-- Dividing by the square root of a positive number is multiplying by its reciprocal square root. -/
theorem div_sqrt (x t : EReal) (h : 0 < t) : Ideal.div x (Ideal.sqrt t) = x * Ideal.rsqrt t := by
  induction t using EReal.rec with
  | bot => exact absurd h (by simp)
  | top => simp [Ideal.div]
  | coe r =>
    have hr : 0 < r := EReal.coe_pos.mp h
    have hs : 0 < Real.sqrt r := Real.sqrt_pos.mpr hr
    rw [Ideal.sqrt_coe, Ideal.rsqrt_coe, if_neg (not_lt.mpr hr.le), if_neg (not_lt.mpr hr.le), if_neg hr.ne']
    unfold Ideal.div
    rw [if_neg (by exact_mod_cast hs.ne'), EReal.coe_inv]

/-- Entry `l` of the row `y`, normalised and scaled by `g`. -/
def norm (y : Fin 1024 → EReal) (g : EReal) (l : Fin 1024) : EReal :=
  y l * Ideal.rsqrt (Ideal.div (∑ k, y k * y k) len + eps) * g

end Cert.Row

namespace Cert.RefSide
open Cert.ReferenceIdeal Cert.ReferenceIdeal.Gen

/-- The reference's result, of its two arguments. -/
def ref (A : FVec Ideal S2x2048x1024 .f32) (g : FVec Ideal S1024 .f32) : FVec Ideal S2048x1024 .f32 :=
  mulf (Host.divf (Host.reduceAdd A (constant S_ .f32 0x00000000#32) reducesTo_S2x2048x1024_S2048x1024_d0 h_S_) (broadcastInDim S2048x1024 ![0, 1] bcast_S2048x1_S2048x1024_0_1 (Host.sqrt (addf (Host.divf (broadcastInDim S2048x1 ![0] bcast_S2048_S2048x1_0 (Host.reduceAdd (mulf (Host.reduceAdd A (constant S_ .f32 0x00000000#32) reducesTo_S2x2048x1024_S2048x1024_d0 h_S_) (Host.reduceAdd A (constant S_ .f32 0x00000000#32) reducesTo_S2x2048x1024_S2048x1024_d0 h_S_)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g))

theorem ref_at (A : FVec Ideal S2x2048x1024 .f32) (g : FVec Ideal S1024 .f32) (r : Fin 2048) (l : Fin 1024) :
    ref A g (ix2 r l) = Row.norm (fun k => A (ix3 0 r k) + A (ix3 1 r k)) (g (ix1 l)) l := by
  unfold Row.norm
  rw [← Row.div_sqrt _ _ (Row.arg_pos _)]
  pointwise [ref]
  simp only [Fin.sum_univ_two]

end Cert.RefSide

namespace Cert.Swap
open Cert.KernelIdeal Cert.KernelIdeal.Gen

theorem pay_at (g : S1024.Idx → EReal) (x y : S64x1024.Idx → EReal) (r : Fin 64) (l : Fin 1024) :
    k0_pay17 (F := Ideal) (k0_pay9 g) x y (ix2 r l) = Row.norm (fun k => x (ix2 r k) + y (ix2 r k)) (g (ix1 l)) l := by
  unfold Row.norm
  pointwise [k0_pay17, k0_pay9, k0_pay16]

theorem pay1_id (x : S64x1024.Idx → EReal) : k0_pay1 (F := Ideal) x = x := by
  funext j; pointwise [k0_pay1]
theorem pay18_id (x : S64x1024.Idx → EReal) : k0_pay18 (F := Ideal) x = x := by
  funext j; pointwise [k0_pay18]
theorem pay23_id (x : S64x1024.Idx → EReal) : k0_pay23 (F := Ideal) x = x := by
  funext j; pointwise [k0_pay23]
theorem pay17_id (g : S1x1024.Idx → EReal) (x y : S64x1024.Idx → EReal) : k0_pay17 (F := Ideal) g x y = k0_pay16 (F := Ideal) g x y := by
  funext j; pointwise [k0_pay17]

theorem ofChunks_chunkOf {α : Type} (f : S512x1024.Idx → α) : ofChunks (chunkOf f) = f := by
  funext j
  have h : (j 0).val < 512 := (j 0).isLt
  unfold ofChunks chunkOf
  refine congrArg f (idx2_ext ?_ ?_)
  · rw [Rect.emb_apply]; show 64 * ((j 0).val / 64) + 1 * ((j 0).val % 64) = _; omega
  · rw [Rect.emb_apply]; show 0 + 1 * (j 1).val = _; omega

variable (a0 : Dev nD → S1x2048x1024.Idx → EReal) (a1 : Dev nD → S1024.Idx → EReal)

theorem sV_ideal (c : Dev nD) : sV (F := Ideal) a0 c = pV (F := Ideal) a0 c := by
  unfold sV
  rw [show (fun i => k0_pay1 (F := Ideal) (chunkOf (pV (F := Ideal) a0 c) i)) = chunkOf (pV (F := Ideal) a0 c) from funext fun i => pay1_id _]
  exact ofChunks_chunkOf _

theorem uV_ideal (c : Dev nD) : uV (F := Ideal) a0 a1 c = nV (F := Ideal) a0 a1 (yp c) := by
  unfold uV uC
  rw [show (fun i => k0_pay23 (F := Ideal) (chunkOf (yV (F := Ideal) a0 a1 c) i)) = chunkOf (yV (F := Ideal) a0 a1 c) from funext fun i => pay23_id _, ofChunks_chunkOf]
  unfold yV ysV nV
  refine congrArg ofChunks (funext fun i => ?_)
  unfold ysC nC
  rw [pay18_id, pay17_id]

/-- A row of a device's part: its own half's row and the same row of `xp c`, added and normalised. -/
theorem nV_at (c : Dev nD) (r : Fin 512) (l : Fin 1024) :
    nV (F := Ideal) a0 a1 c (ix2 r l)
      = Row.norm (fun k => myV (F := Ideal) a0 c (ix2 r k) + pV (F := Ideal) a0 (xp c) (ix2 r k)) (a1 c (ix1 l)) l := by
  have hr : r.val < 512 := r.isLt
  have e (f : S512x1024.Idx → EReal) (k : Fin 1024) (h1 : r.val / 64 < 8) (h2 : r.val % 64 < 64) :
      chunkOf f ⟨r.val / 64, h1⟩ (ix2 ⟨r.val % 64, h2⟩ k) = f (ix2 r k) := by
    unfold chunkOf
    refine congrArg f (idx2_ext ?_ ?_)
    · rw [Rect.emb_apply]; show 64 * (r.val / 64) + 1 * (r.val % 64) = r.val; omega
    · rw [Rect.emb_apply]; show 0 + 1 * k.val = k.val; omega
  unfold nV nC xV ofChunks
  rw [sV_ideal]
  refine (pay_at (a1 c) _ _ ⟨r.val % 64, Nat.mod_lt _ (by decide)⟩ l).trans ?_
  refine congrArg (fun y => Row.norm y (a1 c (ix1 l)) l) (funext fun k => ?_)
  exact congrArg₂ (· + ·) (e _ k (by omega) (Nat.mod_lt _ (by decide))) (e _ k (by omega) (Nat.mod_lt _ (by decide)))

end Cert.Swap

end
-- ==== Proof.Result.lean ====
/-# The result array is the device's block of the reference's result -/
module

public import proofs.«01_k».proof.Proof.Value

@[expose] public section

noncomputable section

open Idealize.ShloMosaic Idealize.ShloMosaic.TcCoe

namespace Cert.Swap
open Cert.KernelIdeal Cert.KernelIdeal.Gen

variable {a0 : Dev nD → S1x2048x1024.Idx → EReal} {a1 : Dev nD → S1024.Idx → EReal}
variable {A : FVec Ideal Cert.ReferenceIdeal.S2x2048x1024 .f32} {g : FVec Ideal Cert.ReferenceIdeal.S1024 .f32}

/-- What a device holds of the whole first argument: the plane its `x` coordinate names. -/
theorem plane_at (hA : ∀ c : Dev nD, a0 c = Layout.blockN ⟨3, ![1, 2048, 1024]⟩ ⟨3, ![2, 2048, 1024]⟩ (Layout.meshBlock [2, 2, 4] ![[0], [], []] c) A)
    (c : Dev nD) (x : Fin 2) (hx : x.val = c.val / 8) (r : Fin 2048) (k : Fin 1024) : a0 c (ix3 ⟨0, Nat.one_pos⟩ r k) = A (ix3 x r k) := by
  have hc := dev_bounds c
  rw [hA c]
  refine congrArg A (idx3_ext ?_ ?_ ?_)
  · show (c.val / 8 % 2 * 1 + 0) * 1 + 0 = x.val; omega
  · show 0 * 2048 + r.val = r.val; omega
  · show 0 * 1024 + k.val = k.val; omega

/-- A device's own rows are rows of the reference's result. -/
theorem nV_ref (hA : ∀ c : Dev nD, a0 c = Layout.blockN ⟨3, ![1, 2048, 1024]⟩ ⟨3, ![2, 2048, 1024]⟩ (Layout.meshBlock [2, 2, 4] ![[0], [], []] c) A)
    (hg : ∀ c, a1 c = g) (c : Dev nD) (r : Fin 512) (l : Fin 1024) (R : Fin 2048) (hR : R.val = myBase c + r.val) :
    nV (F := Ideal) a0 a1 c (ix2 r l) = RefSide.ref A g (ix2 R l) := by
  have hc := dev_bounds c
  have hr : r.val < 512 := r.isLt
  have hx : (xp c).val = (c.val + 8) % 16 := rfl
  have hcl : c.val < 16 := c.isLt
  have e0 (k : Fin 1024) : myV (F := Ideal) a0 c (ix2 r k) = a0 c (ix3 ⟨0, Nat.one_pos⟩ R k) := by
    unfold myV rowsAt
    refine congrArg (a0 c) (idx3_ext rfl ?_ rfl)
    show (myBase c + r.val) % 2048 = R.val
    have := R.isLt; omega
  have e1 (k : Fin 1024) : pV (F := Ideal) a0 (xp c) (ix2 r k) = a0 (xp c) (ix3 ⟨0, Nat.one_pos⟩ R k) := by
    unfold pV rowsAt
    refine congrArg (a0 (xp c)) (idx3_ext rfl ?_ rfl)
    show (pBase (xp c) + r.val) % 2048 = R.val
    rw [hR]; unfold pBase myBase; rw [hx]
    omega
  rw [nV_at, RefSide.ref_at, hg c]
  refine congrArg (fun y => Row.norm y (g (ix1 l)) l) (funext fun k => ?_)
  show myV (F := Ideal) a0 c (ix2 r k) + pV (F := Ideal) a0 (xp c) (ix2 r k) = _
  rw [e0, e1]
  rcases (by omega : c.val / 8 = 0 ∨ c.val / 8 = 1) with h | h
  · rw [plane_at hA c 0 (by rw [h]; rfl), plane_at hA (xp c) 1 (by rw [hx]; show 1 = _; omega)]
  · rw [plane_at hA c 1 (by rw [h]; rfl), plane_at hA (xp c) 0 (by rw [hx]; show 0 = _; omega), add_comm]

/-- Each device's result is its block of the reference's. -/
theorem outV_ref (hA : ∀ c : Dev nD, a0 c = Layout.blockN ⟨3, ![1, 2048, 1024]⟩ ⟨3, ![2, 2048, 1024]⟩ (Layout.meshBlock [2, 2, 4] ![[0], [], []] c) A)
    (hg : ∀ c, a1 c = g) (c : Dev nD) :
    outV (F := Ideal) a0 a1 c = Layout.blockN ⟨2, ![1024, 1024]⟩ ⟨2, ![2048, 1024]⟩ (Layout.meshBlock [2, 2, 4] ![[0], []] c) (RefSide.ref A g) := by
  funext j
  have hc := dev_bounds c
  have hj : (j 0).val < 1024 := (j 0).isLt
  have hcl : c.val < 16 := c.isLt
  have hy : (yp c).val = 8 * (c.val / 8) + (c.val + 4) % 8 := rfl
  have hR : 1024 * (c.val / 8) + (j 0).val < 2048 := by omega
  have er : (Layout.blockN ⟨2, ![1024, 1024]⟩ ⟨2, ![2048, 1024]⟩ (Layout.meshBlock [2, 2, 4] ![[0], []] c) (RefSide.ref A g) : S1024x1024.Idx → EReal) j
      = RefSide.ref A g (ix2 ⟨1024 * (c.val / 8) + (j 0).val, hR⟩ (j 1)) := by
    refine congrArg (RefSide.ref A g) (idx2_ext ?_ ?_)
    · show (c.val / 8 % 2 * 1 + 0) * 1024 + (j 0).val = 1024 * (c.val / 8) + (j 0).val; omega
    · show 0 * 1024 + (j 1).val = (j 1).val; omega
  rw [er]
  unfold outV
  split
  · exact nV_ref hA hg c _ _ _ (by show 1024 * (c.val / 8) + (j 0).val = myBase c + (j 0).val % 512; unfold myBase; omega)
  · rw [uV_ideal]
    exact nV_ref hA hg (yp c) _ _ _ (by show 1024 * (c.val / 8) + (j 0).val = myBase (yp c) + (j 0).val % 512; unfold myBase; rw [hy]; omega)

end Cert.Swap

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Result
public import Idealize.ShloMosaic.Lib.Quiescent

@[expose] public section

noncomputable section

namespace Cert.Proof

open Idealize.ShloMosaic Idealize.ShloMosaic.TcCoe Idealize.SL.Sem

theorem frame_kernel : Cert.quiescent_Kernel := fun m ρ _ =>
  (θ_run Cert.KernelIdeal.defs _ _).mono (fun _ h => ⟨fun c => (h.1 c).2, h.2⟩) (Cert.Swap.run_main (F := Bits) m ρ)

theorem frame_ideal : Cert.quiescent_KernelIdeal := fun m ρ _ =>
  (θ_run Cert.KernelIdeal.defs _ _).mono (fun _ h => ⟨fun c => (h.1 c).2, h.2⟩) (Cert.Swap.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m g m' g' _ hin =>
  ⟨Cert.RefSide.ref (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans
        (Cert.Swap.outV_ref (a0 := Cert.Swap.arg0 m) (a1 := Cert.Swap.arg1 m) (fun c => (hin c).1) (fun c => (hin c).2) c), (h.1 c).2⟩)
      (Cert.Swap.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
